-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x64x128x128 : Shape := ⟨4, ![4, 64, 128, 128]⟩
abbrev S8x64 : Shape := ⟨2, ![8, 64]⟩
abbrev S32x64 : Shape := ⟨2, ![32, 64]⟩
abbrev S64x32 : Shape := ⟨2, ![64, 32]⟩
abbrev S_ : Shape := ⟨0, ![]⟩

class Facts : Prop where
  bcast_S_S4x64x128x128 : S_.BroadcastsInDim S4x64x128x128 (![] : Fin 0 → Fin S4x64x128x128.rank)
  bcast_S_S8x64 : S_.BroadcastsInDim S8x64 (![] : Fin 0 → Fin S8x64.rank)
  bcast_S_S32x64 : S_.BroadcastsInDim S32x64 (![] : Fin 0 → Fin S32x64.rank)
  bcast_S_S64x32 : S_.BroadcastsInDim S64x32 (![] : Fin 0 → Fin S64x32.rank)

variable [Facts]

def fn {F : FTy → Type} [FloatOps F] (main_arg0 : FVec F S4x64x128x128 .f32) (main_arg1 : FVec F S8x64 .f32) (main_arg2 : FVec F S8x64 .f32) (main_arg3 : FVec F S32x64 .f32) (main_arg4 : FVec F S64x32 .f32) (main_arg5 : FVec F S_ .f32) : IVec S4x64x128x128 1 × IVec S8x64 1 × IVec S8x64 1 × IVec S32x64 1 × IVec S64x32 1 × IVec S_ 1 :=
  let main_v0 : FVec F S4x64x128x128 .f32 := Host.absf main_arg0
  let main_cst : FVec F S_ .f32 := constant S_ .f32 0x7F800000#32
  let main_v1 : FVec F S4x64x128x128 .f32 := broadcastInDim S4x64x128x128 ![] bcast_S_S4x64x128x128 main_cst
  let main_v2 : IVec S4x64x128x128 1 := cmpf .olt main_v0 main_v1
  let main_v3 : FVec F S8x64 .f32 := Host.absf main_arg1
  let main_cst_0 : FVec F S_ .f32 := constant S_ .f32 0x7F800000#32
  let main_v4 : FVec F S8x64 .f32 := broadcastInDim S8x64 ![] bcast_S_S8x64 main_cst_0
  let main_v5 : IVec S8x64 1 := cmpf .olt main_v3 main_v4
  let main_v6 : FVec F S8x64 .f32 := Host.absf main_arg2
  let main_cst_1 : FVec F S_ .f32 := constant S_ .f32 0x7F800000#32
  let main_v7 : FVec F S8x64 .f32 := broadcastInDim S8x64 ![] bcast_S_S8x64 main_cst_1
  let main_v8 : IVec S8x64 1 := cmpf .olt main_v6 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_v12 : FVec F S64x32 .f32 := Host.absf main_arg4
  let main_cst_3 : FVec F S_ .f32 := constant S_ .f32 0x7F800000#32
  let main_v13 : FVec F S64x32 .f32 := broadcastInDim S64x32 ![] bcast_S_S64x32 main_cst_3
  let main_v14 : IVec S64x32 1 := cmpf .olt main_v12 main_v13
  let main_v15 : FVec F S_ .f32 := Host.absf main_arg5
  let main_cst_4 : FVec F S_ .f32 := constant S_ .f32 0x7F800000#32
  let main_v16 : IVec S_ 1 := cmpf .olt main_v15 main_cst_4
  (main_v2, main_v5, main_v8, main_v11, main_v14, main_v16)
-- ==== Kernel.lean ====
abbrev S4x64x128x128 : Shape := ⟨4, ![4, 64, 128, 128]⟩
abbrev S8x64 : Shape := ⟨2, ![8, 64]⟩
abbrev S32x64 : Shape := ⟨2, ![32, 64]⟩
abbrev S64x32 : Shape := ⟨2, ![64, 32]⟩
abbrev S_ : Shape := ⟨0, ![]⟩
abbrev S4x64x16384 : Shape := ⟨3, ![4, 64, 16384]⟩
abbrev S1 : Shape := ⟨1, ![1]⟩
abbrev S1x64x16384 : Shape := ⟨3, ![1, 64, 16384]⟩
abbrev S1x64x2048 : Shape := ⟨3, ![1, 64, 2048]⟩
abbrev S128x4096 : Shape := ⟨2, ![128, 4096]⟩
abbrev S1x1 : Shape := ⟨2, ![1, 1]⟩
abbrev S40x16384 : Shape := ⟨2, ![40, 16384]⟩
abbrev S40x4096 : Shape := ⟨2, ![40, 4096]⟩
abbrev S64x16384 : Shape := ⟨2, ![64, 16384]⟩
abbrev S40x64 : Shape := ⟨2, ![40, 64]⟩
abbrev S128x64 : Shape := ⟨2, ![128, 64]⟩
abbrev S40x128 : Shape := ⟨2, ![40, 128]⟩
abbrev S8x4096 : Shape := ⟨2, ![8, 4096]⟩
abbrev S64x4096 : Shape := ⟨2, ![64, 4096]⟩
abbrev S16x4096 : Shape := ⟨2, ![16, 4096]⟩
abbrev S32x4096 : Shape := ⟨2, ![32, 4096]⟩
abbrev S4096 : Shape := ⟨1, ![4096]⟩
abbrev S1x4096 : Shape := ⟨2, ![1, 4096]⟩
abbrev S64x2048 : Shape := ⟨2, ![64, 2048]⟩
abbrev S2048 : Shape := ⟨1, ![2048]⟩
abbrev S1x2048 : Shape := ⟨2, ![1, 2048]⟩
abbrev S16x2048 : Shape := ⟨2, ![16, 2048]⟩
abbrev S80x2048 : Shape := ⟨2, ![80, 2048]⟩
abbrev S80x1024 : Shape := ⟨2, ![80, 1024]⟩
abbrev S80x512 : Shape := ⟨2, ![80, 512]⟩
abbrev S48x512 : Shape := ⟨2, ![48, 512]⟩
abbrev S1024x512 : Shape := ⟨2, ![1024, 512]⟩
abbrev S48x1024 : Shape := ⟨2, ![48, 1024]⟩
abbrev S32x1024 : Shape := ⟨2, ![32, 1024]⟩
abbrev S1x1024 : Shape := ⟨2, ![1, 1024]⟩
abbrev S64x1024 : Shape := ⟨2, ![64, 1024]⟩
abbrev S1x64x1024 : Shape := ⟨3, ![1, 64, 1024]⟩

abbrev nBuf : Space → Nat
  | .hbm => 10
  | .vmem => 14
  | .smem => 1
  | _ => 0

abbrev bufTy : (tb : Table) → Fin (tcTables nBuf tb) → BufTy
  | .hbm, ⟨0, _⟩ => ⟨S4x64x128x128, .f32⟩
  | .hbm, ⟨1, _⟩ => ⟨S8x64, .f32⟩
  | .hbm, ⟨2, _⟩ => ⟨S8x64, .f32⟩
  | .hbm, ⟨3, _⟩ => ⟨S32x64, .f32⟩
  | .hbm, ⟨4, _⟩ => ⟨S64x32, .f32⟩
  | .hbm, ⟨5, _⟩ => ⟨S_, .f32⟩
  | .hbm, ⟨6, _⟩ => ⟨S4x64x16384, .f32⟩
  | .hbm, ⟨7, _⟩ => ⟨S1, .f32⟩
  | .hbm, ⟨8, _⟩ => ⟨S4x64x16384, .f32⟩
  | .hbm, ⟨9, _⟩ => ⟨S4x64x128x128, .f32⟩
  | .local _ .vmem, ⟨0, _⟩ => ⟨S1x64x16384, .f32⟩
  | .local _ .vmem, ⟨1, _⟩ => ⟨S1x64x16384, .f32⟩
  | .local _ .vmem, ⟨2, _⟩ => ⟨S1x64x2048, .f32⟩
  | .local _ .vmem, ⟨3, _⟩ => ⟨S1x64x2048, .f32⟩
  | .local _ .vmem, ⟨4, _⟩ => ⟨S8x64, .f32⟩
  | .local _ .vmem, ⟨5, _⟩ => ⟨S8x64, .f32⟩
  | .local _ .vmem, ⟨6, _⟩ => ⟨S32x64, .f32⟩
  | .local _ .vmem, ⟨7, _⟩ => ⟨S64x32, .f32⟩
  | .local _ .vmem, ⟨8, _⟩ => ⟨S1x64x2048, .f32⟩
  | .local _ .vmem, ⟨9, _⟩ => ⟨S1x64x2048, .f32⟩
  | .local _ .vmem, ⟨10, _⟩ => ⟨S128x4096, .bf16⟩
  | .local _ .vmem, ⟨11, _⟩ => ⟨S1x1, .f32⟩
  | .local _ .vmem, ⟨12, _⟩ => ⟨S40x16384, .f32⟩
  | .local _ .vmem, ⟨13, _⟩ => ⟨S40x4096, .f32⟩
  | .local _ .smem, ⟨0, _⟩ => ⟨S1, .f32⟩
  | _, _ => ⟨S4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x64x128x128 : Shape := ⟨4, ![4, 64, 128, 128]⟩
abbrev S8x64 : Shape := ⟨2, ![8, 64]⟩
abbrev S32x64 : Shape := ⟨2, ![32, 64]⟩
abbrev S64x32 : Shape := ⟨2, ![64, 32]⟩
abbrev S_ : Shape := ⟨0, ![]⟩
abbrev S4x128x128x8 : Shape := ⟨4, ![4, 128, 128, 8]⟩
abbrev S4x8x128x128 : Shape := ⟨4, ![4, 8, 128, 128]⟩
abbrev S4x8x16384 : Shape := ⟨3, ![4, 8, 16384]⟩
abbrev S4x8x64x2x64x2 : Shape := ⟨6, ![4, 8, 64, 2, 64, 2]⟩
abbrev S4x8x64x64 : Shape := ⟨4, ![4, 8, 64, 64]⟩
abbrev S4x8x4096 : Shape := ⟨3, ![4, 8, 4096]⟩
abbrev S4x128x128x32 : Shape := ⟨4, ![4, 128, 128, 32]⟩
abbrev S4x32x128x128 : Shape := ⟨4, ![4, 32, 128, 128]⟩
abbrev S4x32x64x2x64x2 : Shape := ⟨6, ![4, 32, 64, 2, 64, 2]⟩
abbrev S4x32x64x64 : Shape := ⟨4, ![4, 32, 64, 64]⟩
abbrev S4x32x4096 : Shape := ⟨3, ![4, 32, 4096]⟩
abbrev S4x16384x4096 : Shape := ⟨3, ![4, 16384, 4096]⟩
abbrev S4x16384 : Shape := ⟨2, ![4, 16384]⟩
abbrev S4x16384x1 : Shape := ⟨3, ![4, 16384, 1]⟩
abbrev S4x32x16384 : Shape := ⟨3, ![4, 32, 16384]⟩
abbrev S4x128x128x64 : Shape := ⟨4, ![4, 128, 128, 64]⟩

abbrev nBuf : Space → Nat
  | .hbm => 43
  | .vmem => 0
  | .smem => 0
  | _ => 0

abbrev bufTy : (tb : Table) → Fin (tcTables nBuf tb) → BufTy
  | .hbm, ⟨0, _⟩ => ⟨S4x64x128x128, .f32⟩
  | .hbm, ⟨1, _⟩ => ⟨S8x64, .f32⟩
  | .hbm, ⟨2, _⟩ => ⟨S8x64, .f32⟩
  | .hbm, ⟨3, _⟩ => ⟨S32x64, .f32⟩
  | .hbm, ⟨4, _⟩ => ⟨S64x32, .f32⟩
  | .hbm, ⟨5, _⟩ => ⟨S_, .f32⟩
  | .hbm, ⟨6, _⟩ => ⟨S4x128x128x8, .f32⟩
  | .hbm, ⟨7, _⟩ => ⟨S4x8x128x128, .f32⟩
  | .hbm, ⟨8, _⟩ => ⟨S4x8x16384, .f32⟩
  | .hbm, ⟨9, _⟩ => ⟨S4x128x128x8, .f32⟩
  | .hbm, ⟨10, _⟩ => ⟨S4x8x128x128, .f32⟩
  | .hbm, ⟨11, _⟩ => ⟨S4x8x64x2x64x2, .f32⟩
  | .hbm, ⟨12, _⟩ => ⟨S_, .f32⟩
  | .hbm, ⟨13, _⟩ => ⟨S4x8x64x64, .f32⟩
  | .hbm, ⟨14, _⟩ => ⟨S4x8x4096, .f32⟩
  | .hbm, ⟨15, _⟩ => ⟨S4x128x128x32, .f32⟩
  | .hbm, ⟨16, _⟩ => ⟨S4x32x128x128, .f32⟩
  | .hbm, ⟨17, _⟩ => ⟨S4x32x64x2x64x2, .f32⟩
  | .hbm, ⟨18, _⟩ => ⟨S_, .f32⟩
  | .hbm, ⟨19, _⟩ => ⟨S4x32x64x64, .f32⟩
  | .hbm, ⟨20, _⟩ => ⟨S4x32x4096, .f32⟩
  | .hbm, ⟨21, _⟩ => ⟨S4x16384x4096, .f32⟩
  | .hbm, ⟨22, _⟩ => ⟨S_, .f32⟩
  | .hbm, ⟨23, _⟩ => ⟨S4x16384, .f32⟩
  | .hbm, ⟨24, _⟩ => ⟨S_, .f32⟩
  | .hbm, ⟨25, _⟩ => ⟨S4x16384, .f32⟩
  | .hbm, ⟨26, _⟩ => ⟨S4x16384, .f32⟩
  | .hbm, ⟨27, _⟩ => ⟨S4x16384x1, .f32⟩
  | .hbm, ⟨28, _⟩ => ⟨S4x16384x4096, .f32⟩
  | .hbm, ⟨29, _⟩ => ⟨S4x16384x4096, .f32⟩
  | .hbm, ⟨30, _⟩ => ⟨S4x16384x4096, .f32⟩
  | .hbm, ⟨31, _⟩ => ⟨S_, .f32⟩
  | .hbm, ⟨32, _⟩ => ⟨S4x16384, .f32⟩
  | .hbm, ⟨33, _⟩ => ⟨S4x16384x1, .f32⟩
  | .hbm, ⟨34, _⟩ => ⟨S4x16384x4096, .f32⟩
  | .hbm, ⟨35, _⟩ => ⟨S4x16384x4096, .f32⟩
  | .hbm, ⟨36, _⟩ => ⟨S4x32x16384, .f32⟩
  | .hbm, ⟨37, _⟩ => ⟨S4x32x128x128, .f32⟩
  | .hbm, ⟨38, _⟩ => ⟨S4x128x128x64, .f32⟩
  | .hbm, ⟨39, _⟩ => ⟨S4x64x128x128, .f32⟩
  | .hbm, ⟨40, _⟩ => ⟨S4x64x128x128, .f32⟩
  | .hbm, ⟨41, _⟩ => ⟨S4x64x128x128, .f32⟩
  | .hbm, ⟨42, _⟩ => ⟨S4x64x128x128, .f32⟩
  | _, _ => ⟨S4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Finite.lean ====
/-
  What the precondition says: each entry of each argument is a real number.
-/
module

public import proofs.«01_k».proof.Defs
public import proofs.«01_k».proof.Proof.Gen.Pre_finite
public import Idealize.ShloMosaic.Lib.Pointwise

@[expose] public section

noncomputable section

namespace Cert.Finite

open Idealize.ShloMosaic

/-- An extended real whose absolute value is below infinity is a real. -/
theorem real_of_abs {a : EReal} (h : max a (-a) < ⊤) : a = ((a.toReal : ℝ) : EReal) :=
  (EReal.coe_toReal (fun e => by simp [e] at h) (fun e => by simp [e] at h)).symm

/-- The same of an array tested whole against infinity. -/
theorem real_of_test {s : Shape} (a : FVec Ideal s .f32) (u : FVec Ideal s .f32) (hu : ∀ y, u y = (⊤ : EReal))
    (h : cmpf .olt (Host.absf a) u = fun _ => 1#1) : ∃ r : s.Idx → ℝ, ∀ y, a y = ((r y : ℝ) : EReal) := by
  refine ⟨fun y => EReal.toReal (a y), fun y => real_of_abs ?_⟩
  have e := congrFun h y
  pointwise at e
  rw [hu] at e
  by_contra hn
  rw [show FloatOps.absf (a y) = max (a y : EReal) (-(a y : EReal)) from rfl, decide_eq_false hn] at e
  exact absurd e (by decide)

/-- The bit pattern of infinity, as an extended real. -/
theorem inf_bits : FloatOps.ofBits (F := Ideal) .f32 0x7F800000#32 = (⊤ : EReal) := by
  show Ideal.ofBits .f32 0x7F800000#32 = ⊤
  simp [Ideal.ofBits, Ideal.ieee]

open Cert.KernelIdeal in
/-- Under the precondition each argument is an array of reals. -/
theorem reals (m : (ℓ : Loc nD τ sig) → Buf (Elt Ideal) ℓ) (h : Cert.Pre_KernelIdeal_finite m) (c : Dev nD) :
    (∃ r : S4x64x128x128.Idx → ℝ, ∀ y, (m ((c.tc : Thread nD τ).loc main_arg0) : FVec Ideal S4x64x128x128 .f32) y = ((r y : ℝ) : EReal))
    ∧ (∃ r : S8x64.Idx → ℝ, ∀ y, (m ((c.tc : Thread nD τ).loc main_arg1) : FVec Ideal S8x64 .f32) y = ((r y : ℝ) : EReal))
    ∧ (∃ r : S8x64.Idx → ℝ, ∀ y, (m ((c.tc : Thread nD τ).loc main_arg2) : FVec Ideal S8x64 .f32) y = ((r y : ℝ) : EReal))
    ∧ (∃ r : S32x64.Idx → ℝ, ∀ y, (m ((c.tc : Thread nD τ).loc main_arg3) : FVec Ideal S32x64 .f32) y = ((r y : ℝ) : EReal))
    ∧ (∃ r : S64x32.Idx → ℝ, ∀ y, (m ((c.tc : Thread nD τ).loc main_arg4) : FVec Ideal S64x32 .f32) y = ((r y : ℝ) : EReal))
    ∧ (∃ r : S_.Idx → ℝ, ∀ y, (m ((c.tc : Thread nD τ).loc main_arg5) : FVec Ideal S_ .f32) y = ((r y : ℝ) : EReal)) :=
  ⟨real_of_test _ _ (fun _ => inf_bits) (h c).1, real_of_test _ _ (fun _ => inf_bits) (h c).2.1,
    real_of_test _ _ (fun _ => inf_bits) (h c).2.2.1, real_of_test _ _ (fun _ => inf_bits) (h c).2.2.2.1,
    real_of_test _ _ (fun _ => inf_bits) (h c).2.2.2.2.1, real_of_test _ _ (fun _ => inf_bits) (h c).2.2.2.2.2⟩

end Cert.Finite
-- ==== Proof.Point.lean ====
/-
  One grid point's arithmetic over the extended reals: the scores of a block of queries against the keys, tile by
  tile, their powers of two, the values gathered with them, and the output column they give. Nothing here is assumed
  finite: every equation holds for all extended reals.
-/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Val

open Idealize.ShloMosaic Cert.KernelIdeal Cert.KernelIdeal.Gen

/-- What a load reads after stores over a fresh buffer: the load's part of what the stores leave. -/
theorem readCov_ld {sig : RefSig} {κ : Kind} {sp : Space} {s : Shape} {e : EltTy} (v : View sig κ sp s e)
    (L : List (View.Piece (Elt Ideal) s e)) (r : Rect s) : v.readCov L r.toLoadRect = View.ld (View.canon L) r :=
  View.readCov_eq_canon' v L r.toLoadRect

/-- What one tile of 512 keys adds to the gathered values: the tile's values times the powers of two of the scores. -/
def tile (xa : FVec Ideal S80x1024 .bf16) (k : FVec Ideal S80x512 .bf16) (g : FVec Ideal S48x512 .bf16) :
    FVec Ideal S48x1024 .f32 :=
  matmul dot_S48x512_S1024x512_S48x1024_1_1_0_0_n_n none g
    (exp2 (truncf .bf16 (matmul dot_S80x1024_S80x512_S1024x512_0_0_1_1_n_n none xa k (constant S1024x512 .f32 0x00000000#32))
      Facts₀.bitsLt_bf16_f32)) (constant S48x1024 .f32 0x00000000#32)

theorem tile_apply (xa : FVec Ideal S80x1024 .bf16) (k : FVec Ideal S80x512 .bf16) (g : FVec Ideal S48x512 .bf16)
    (r : Fin 48) (n : Fin 1024) :
    tile xa k g (ix2 r n) = ∑ l : Fin 512, g (ix2 r l) * Ideal.exp2 (∑ a : Fin 80, xa (ix2 a n) * k (ix2 a l)) := by
  pointwise [tile]
  rfl

/-- A block of 80 rows by 512 columns of the key scratch, from column `o`. -/
theorem ldK_apply (kg : FVec Ideal S128x4096 .bf16) (o : ℕ) (ho : o + 512 ≤ 4096)
    (inb : ∀ a, (![0, o] : Fin 2 → ℕ) a + (![80, 512] : Fin 2 → ℕ) a ≤ S128x4096.size a) (a : Fin 80) (l : Fin 512) :
    View.ld (Val := Elt Ideal) (e' := .bf16) kg (Rect.unit (s := S128x4096) ![0, o] ![80, 512] inb) (ix2 a l)
      = kg (ix2 ⟨a.val, by omega⟩ ⟨o + l.val, by omega⟩) := by
  pointwise

/-- A block of 48 rows by 512 columns of the value scratch, from column `o`. -/
theorem ldG_apply (kg : FVec Ideal S128x4096 .bf16) (o : ℕ) (ho : o + 512 ≤ 4096)
    (inb : ∀ a, (![80, o] : Fin 2 → ℕ) a + (![48, 512] : Fin 2 → ℕ) a ≤ S128x4096.size a) (r : Fin 48) (l : Fin 512) :
    View.ld (Val := Elt Ideal) (e' := .bf16) kg (Rect.unit (s := S128x4096) ![80, o] ![48, 512] inb) (ix2 r l)
      = kg (ix2 ⟨80 + r.val, by omega⟩ ⟨o + l.val, by omega⟩) := by
  pointwise

/-- A selection on the equality of two small words, read as one on the equality of the numbers they hold. -/
theorem select_eq_word {α : Type} {a b : ℕ} (x y : α) (ha : a < 2 ^ 32) (hb : b < 2 ^ 32) :
    Scalar.select (IntOp.cmpi .eq (BitVec.ofNat 32 a) (BitVec.ofNat 32 b)) x y = if a = b then x else y := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · subst h; simp [IntOp.cmpi, Scalar.select]
  · have h' : ¬ BitVec.ofNat 32 a = BitVec.ofNat 32 b := fun q => h (e.mp q)
    have b : (BitVec.ofNat 32 a == BitVec.ofNat 32 b) = false := beq_eq_false_iff_ne.mpr h'
    rw [if_neg h]; unfold IntOp.cmpi Scalar.select; simp only [b]; rfl

/-- The query block with its shift row: the block's 64 channels, then the row that subtracts the bound, then zeros. -/
theorem xaug_apply (x1 : FVec Ideal S1x64x2048 .f32) (km : FVec Ideal S1x1 .f32) (k : Fin 80) (n : Fin 2048) :
    k0_pay98 (F := Ideal) x1 km (ix2 k n) = if h : k.val < 64 then x1 (ix3 0 ⟨k.val, h⟩ n)
      else if k.val = 64 then 0 - Ideal.sqrt (∑ c : Fin 64, x1 (ix3 0 c n) * x1 (ix3 0 c n)) * km (ix2 0 0) else 0 := by
  pointwise [k0_pay98, k0_pay97]
  by_cases h : k.val < 64
  · rw [dif_pos h, dif_pos h]
  · rw [dif_neg h, dif_neg h, select_eq_word _ _ (by omega) (by omega)]
    by_cases h' : k.val = 64
    · rw [if_pos h', if_pos (by omega)]
    · rw [if_neg h', if_neg (by omega)]

/-! ## The eight tiles together -/

/-- The gathered values after all eight tiles, over the key and value scratch `kg`. -/
def gathered (xa : FVec Ideal S80x1024 .bf16) (kg : FVec Ideal S128x4096 .bf16) : FVec Ideal S48x1024 .f32 :=
  let K (o : ℕ) (ho : ∀ a, (![0, o] : Fin 2 → ℕ) a + (![80, 512] : Fin 2 → ℕ) a ≤ S128x4096.size a) :=
    View.ld (Val := Elt Ideal) (e' := .bf16) kg (Rect.unit (s := S128x4096) ![0, o] ![80, 512] ho)
  let G (o : ℕ) (ho : ∀ a, (![80, o] : Fin 2 → ℕ) a + (![48, 512] : Fin 2 → ℕ) a ≤ S128x4096.size a) :=
    View.ld (Val := Elt Ideal) (e' := .bf16) kg (Rect.unit (s := S128x4096) ![80, o] ![48, 512] ho)
  addf (addf (addf (addf (addf (addf (addf
    (tile xa (K 0 inb_S128x4096_S80x512_0_0) (G 0 inb_S128x4096_S48x512_80_0))
    (tile xa (K 512 inb_S128x4096_S80x512_0_512) (G 512 inb_S128x4096_S48x512_80_512)))
    (tile xa (K 1024 inb_S128x4096_S80x512_0_1024) (G 1024 inb_S128x4096_S48x512_80_1024)))
    (tile xa (K 1536 inb_S128x4096_S80x512_0_1536) (G 1536 inb_S128x4096_S48x512_80_1536)))
    (tile xa (K 2048 inb_S128x4096_S80x512_0_2048) (G 2048 inb_S128x4096_S48x512_80_2048)))
    (tile xa (K 2560 inb_S128x4096_S80x512_0_2560) (G 2560 inb_S128x4096_S48x512_80_2560)))
    (tile xa (K 3072 inb_S128x4096_S80x512_0_3072) (G 3072 inb_S128x4096_S48x512_80_3072)))
    (tile xa (K 3584 inb_S128x4096_S80x512_0_3584) (G 3584 inb_S128x4096_S48x512_80_3584))

/-- Key `m`'s term: its value in row `r` times two to its score with query `n`. -/
def term (xa : FVec Ideal S80x1024 .bf16) (kg : FVec Ideal S128x4096 .bf16) (r : Fin 48) (n : Fin 1024) (m : Fin 4096) : EReal :=
  kg (ix2 ⟨80 + r.val, by omega⟩ m) * Ideal.exp2 (∑ a : Fin 80, xa (ix2 a n) * kg (ix2 ⟨a.val, by omega⟩ m))

theorem tile_ld (xa : FVec Ideal S80x1024 .bf16) (kg : FVec Ideal S128x4096 .bf16) (o : ℕ) (ho : o + 512 ≤ 4096)
    (inb : ∀ a, (![0, o] : Fin 2 → ℕ) a + (![80, 512] : Fin 2 → ℕ) a ≤ S128x4096.size a)
    (inb' : ∀ a, (![80, o] : Fin 2 → ℕ) a + (![48, 512] : Fin 2 → ℕ) a ≤ S128x4096.size a) (r : Fin 48) (n : Fin 1024) :
    tile xa (View.ld (Val := Elt Ideal) (e' := .bf16) kg (Rect.unit (s := S128x4096) ![0, o] ![80, 512] inb))
      (View.ld (Val := Elt Ideal) (e' := .bf16) kg (Rect.unit (s := S128x4096) ![80, o] ![48, 512] inb')) (ix2 r n)
      = ∑ l : Fin 512, term xa kg r n ⟨o + l.val, by omega⟩ := by
  rw [tile_apply]
  refine Finset.sum_congr rfl fun l _ => ?_
  rw [ldG_apply kg o ho]
  simp only [ldK_apply kg o ho]
  rfl

/-- The eight tiles' sums are one sum over the 4096 keys. -/
theorem gathered_apply (xa : FVec Ideal S80x1024 .bf16) (kg : FVec Ideal S128x4096 .bf16) (r : Fin 48) (n : Fin 1024) :
    gathered xa kg (ix2 r n) = ∑ m : Fin 4096, term xa kg r n m := by
  have h := Fin.sum_mul_add_fin (L := 4096) 8 512 (term xa kg r n)
  rw [Fin.sum_univ_eight] at h
  rw [← h]
  unfold gathered
  simp only [addf_apply, Ideal.addf_def]
  rw [tile_ld xa kg 0 (by omega), tile_ld xa kg 512 (by omega), tile_ld xa kg 1024 (by omega), tile_ld xa kg 1536 (by omega),
    tile_ld xa kg 2048 (by omega), tile_ld xa kg 2560 (by omega), tile_ld xa kg 3072 (by omega), tile_ld xa kg 3584 (by omega)]
  rfl

/-! ## The output block of a point -/

/-- The stored half block: the projected values over their weights' sum, plus the block's own half. -/
def half (xs : FVec Ideal S64x1024 .f32) (A : FVec Ideal S48x1024 .f32) (wo : FVec Ideal S64x32 .f32) : FVec Ideal S1x64x1024 .f32 :=
  shapeCast S1x64x1024 (addf (divf
    (matmul dot_S64x32_S32x1024_S64x1024_1_0_0_1_n_n none wo
      (extractStridedSlice S32x1024 ![0, 0] A Facts₀.slices_S48x1024_o0_0_S32x1024) (constant S64x1024 .f32 0x00000000#32))
    (broadcastTo S64x1024 (extractStridedSlice S1x1024 ![32, 0] A Facts₀.slices_S48x1024_o32_0_S1x1024)
      Facts₀.broadcasts_S1x1024_S64x1024)) xs) Facts₀.shapeCasts_S64x1024_S1x64x1024

theorem half_apply (xs : FVec Ideal S64x1024 .f32) (A : FVec Ideal S48x1024 .f32) (wo : FVec Ideal S64x32 .f32)
    (c : Fin 64) (n : Fin 1024) : half xs A wo (ix3 0 c n)
      = Ideal.div (∑ j : Fin 32, wo (ix2 c j) * A (ix2 ⟨j.val, by omega⟩ n)) (A (ix2 32 n)) + xs (ix2 c n) := by
  pointwise [half]

end Cert.KernelIdeal.Val
-- ==== Proof.Opened.lean ====
/-
  What a grid point leaves in its output block, as a function of what the two carried scratch buffers hold after that
  point: the same function whether the point has just filled them or has kept them.
-/
module

public import proofs.«01_k».proof.Proof.Point
public import proofs.«01_k».proof.Proof.Gen.KernelIdeal.Frame
public import Idealize.ShloMosaic.Lib.Pipeline.ReadBack

@[expose] public section

set_option maxRecDepth 16384

noncomputable section

namespace Cert.KernelIdeal.Val

open Idealize.ShloMosaic Idealize.SL.Sem Cert.KernelIdeal Cert.KernelIdeal.Gen

/-- The output block of a point: its two half blocks of queries, over the key and value scratch `kg` and the largest
    key norm `km`. -/
def pointOut (x1 : FVec Ideal S1x64x2048 .f32) (kg : FVec Ideal S128x4096 .bf16) (km : FVec Ideal S1x1 .f32)
    (wo : FVec Ideal S64x32 .f32) : FVec Ideal S1x64x2048 .f32 :=
  View.canon (Val := Elt Ideal) (e := .f32) [
    ⟨Rect.unit ![0, 0, 1024] ![1, 64, 1024] inb_S1x64x2048_S1x64x1024_0_0_1024,
      half (extractStridedSlice S64x1024 ![0, 1024] (k0_pay97 x1) Facts₀.slices_S64x2048_o0_1024_S64x1024)
        (gathered (k0_pay100 x1 km) kg) wo⟩,
    ⟨Rect.unit ![0, 0, 0] ![1, 64, 1024] inb_S1x64x2048_S1x64x1024_0_0_0,
      half (extractStridedSlice S64x1024 ![0, 0] (k0_pay97 x1) Facts₀.slices_S64x2048_o0_0_S64x1024)
        (gathered (k0_pay99 x1 km) kg) wo⟩]

variable (m : (ℓ : Loc nD τ sig) → Buf (Elt Ideal) ℓ)

theorem out_B (c : Dev nD) (t : Fin cfg0.N) (h : ¬ t.val % 8 = 0) : (outsAt0 m c t.val t.isLt).1
    = pointOut (iblk m c 1 t) (outsAt0 m c t.val t.isLt).2.1 (outsAt0 m c t.val t.isLt).2.2 (iblk m c 5 t) := by
  rw [outsAt0_B m c t h]; frame_out
  unfold sout0_B_0 sout0_B_1
  simp only [read_unread_whole]
  rfl

theorem out_A (c : Dev nD) (t : Fin cfg0.N) (h : t.val % 8 = 0) : (outsAt0 m c t.val t.isLt).1
    = pointOut (iblk m c 1 t) (outsAt0 m c t.val t.isLt).2.1 (outsAt0 m c t.val t.isLt).2.2 (iblk m c 5 t) := by
  rw [outsAt0_A m c t h]; dsimp only
  unfold out0_A_7 sout0_A_0 sout0_A_1
  simp only [View.read_writes_junk_eq_canon]
  unfold kernelRun0_A
  dsimp only
  unfold kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.v9 kernelRun0_A.sl.v26 kernelRun0_A.sl.v27 kernelRun0_A.sl.v36 kernelRun0_A.sl.v37 kernelRun0_A.sl.v48 kernelRun0_A.sl.v49 kernelRun0_A.sl.v60 kernelRun0_A.sl.v61 kernelRun0_A.sl.v72 kernelRun0_A.sl.v73 kernelRun0_A.sl.v84 kernelRun0_A.sl.v85 kernelRun0_A.sl.v96 kernelRun0_A.sl.v97 kernelRun0_A.sl.v108 kernelRun0_A.sl.v109
  simp (disch := decide) only [readCov_ld, View.readAt_eq_ld, Memref.IsWhole.read_unread, View.ld_unit_lit']
  generalize View.canon (kernelRun0_A.sl.HS0_4 (F := Ideal) ..) = kg
  generalize View.canon (kernelRun0_A.sl.HS1_1 (F := Ideal) ..) = km
  rfl

end Cert.KernelIdeal.Val
-- ==== Proof.Pool.lean ====
/-
  The pooling: one row of pooled positions from two rows of the projected image. The larger of the two rows is taken
  at each position, and its even and odd positions are picked by products with 0/1 matrices; the larger of the two picks
  is the largest of the four neighbours.
-/
module

public import proofs.«01_k».proof.Proof.Point

@[expose] public section

set_option maxRecDepth 16384

noncomputable section

namespace Cert.KernelIdeal.Val

open Idealize.ShloMosaic Cert.KernelIdeal Cert.KernelIdeal.Gen

/-- The matrix with a one at row `2 w` of column `w`. -/
theorem even_apply (k : Fin 128) (w : Fin 64) :
    k0_pay4 (F := Ideal) (ix2 k w) = if k.val = 2 * w.val then 1 else 0 := by
  pointwise [k0_pay4]
  rw [show IntOp.muli (2#32) (BitVec.ofNat 32 w.val) = BitVec.ofNat 32 (2 * w.val) from (BitVec.ofNat_mul 2 w.val).symm,
    select_eq_word _ _ (by omega) (by omega)]

/-- The matrix with a one at row `2 w + 1` of column `w`. -/
theorem odd_apply (k : Fin 128) (w : Fin 64) :
    k0_pay5 (F := Ideal) (ix2 k w) = if k.val = 2 * w.val + 1 then 1 else 0 := by
  pointwise [k0_pay5]
  rw [show IntOp.muli (2#32) (BitVec.ofNat 32 w.val) = BitVec.ofNat 32 (2 * w.val) from (BitVec.ofNat_mul 2 w.val).symm,
    show IntOp.addi (BitVec.ofNat 32 (2 * w.val)) 1#32 = BitVec.ofNat 32 (2 * w.val + 1) from (BitVec.ofNat_add (2 * w.val) 1).symm,
    select_eq_word _ _ (by omega) (by omega)]

/-- A sum with a 0/1 column that has its one at `i` is the term at `i`. -/
theorem sum_pick (g : Fin 128 → EReal) (i : ℕ) (hi : i < 128) :
    (∑ k : Fin 128, g k * if k.val = i then 1 else 0) = g ⟨i, hi⟩ := by
  rw [Finset.sum_eq_single ⟨i, hi⟩]
  · simp
  · intro k _ hk
    rw [if_neg fun h => hk (Fin.ext h), mul_zero]
  · simp

/-- One row of pooled positions, from the two image rows `a` and `b`. -/
def poolRow (a b : FVec Ideal S40x128 .f32) : FVec Ideal S40x64 .f32 :=
  shapeCast S40x64 (maximumf
    (matmul dot_S40x128_S128x64_S40x64_1_0_0_1_n_n none (maximumf a b) (k0_pay4 (F := Ideal)) (constant S40x64 .f32 0x00000000#32))
    (matmul dot_S40x128_S128x64_S40x64_1_0_0_1_n_n none (maximumf a b) (k0_pay5 (F := Ideal)) (constant S40x64 .f32 0x00000000#32)))
    Facts₀.shapeCasts_S40x64_S40x64

theorem poolRow_apply (a b : FVec Ideal S40x128 .f32) (r : Fin 40) (w : Fin 64) :
    poolRow a b (ix2 r w)
      = max (max (a (ix2 r ⟨2 * w.val, by omega⟩)) (b (ix2 r ⟨2 * w.val, by omega⟩)))
          (max (a (ix2 r ⟨2 * w.val + 1, by omega⟩)) (b (ix2 r ⟨2 * w.val + 1, by omega⟩))) := by
  pointwise [poolRow]
  simp only [even_apply, odd_apply]
  rw [sum_pick (fun k => max (a (ix2 r k)) (b (ix2 r k))) (2 * w.val) (by omega),
    sum_pick (fun k => max (a (ix2 r k)) (b (ix2 r k))) (2 * w.val + 1) (by omega)]

/-- The pooled projection: at position `m` the largest of the four neighbours of `f`'s row `r` that it stands for. -/
def pooled (f : FVec Ideal S40x16384 .f32) (r : Fin 40) (m : Fin 4096) : EReal :=
  max (max (f (ix2 r ⟨256 * (m.val / 64) + 2 * (m.val % 64), by omega⟩))
        (f (ix2 r ⟨256 * (m.val / 64) + 128 + 2 * (m.val % 64), by omega⟩)))
    (max (f (ix2 r ⟨256 * (m.val / 64) + (2 * (m.val % 64) + 1), by omega⟩))
        (f (ix2 r ⟨256 * (m.val / 64) + 128 + (2 * (m.val % 64) + 1), by omega⟩)))

/-- The pooled projection as a block. -/
def pooledV (f : FVec Ideal S40x16384 .f32) : FVec Ideal S40x4096 .f32 := fun y => pooled f (y 0) (y 1)

/-- A row of 128 columns of the projection, from column `o`. -/
theorem ldF_apply (f : FVec Ideal S40x16384 .f32) (o : ℕ) (ho : o + 128 ≤ 16384)
    (inb : ∀ a, (![0, o] : Fin 2 → ℕ) a + (![40, 128] : Fin 2 → ℕ) a ≤ S40x16384.size a) (r : Fin 40) (l : Fin 128) :
    View.ld (Val := Elt Ideal) (e' := .f32) f (Rect.unit (s := S40x16384) ![0, o] ![40, 128] inb) (ix2 r l)
      = f (ix2 r ⟨o + l.val, by omega⟩) := by
  pointwise

/-- Row `hp` of pooled positions, computed from the stored projection, is that block of the pooled projection. -/
theorem pool_piece {sig : RefSig} {κ : Kind} {sp : Space} (v : View sig κ sp S40x16384 .f32) (f : FVec Ideal S40x16384 .f32)
    (inb0 : ∀ a, (![0, 0] : Fin 2 → ℕ) a + S40x16384.size a ≤ S40x16384.size a) (hp : ℕ) (hlt : hp < 64)
    (inbA : ∀ a, (![0, 256 * hp] : Fin 2 → ℕ) a + S40x128.size a ≤ S40x16384.size a)
    (inbB : ∀ a, (![0, 256 * hp + 128] : Fin 2 → ℕ) a + S40x128.size a ≤ S40x16384.size a)
    (inbO : ∀ a, (![0, 64 * hp] : Fin 2 → ℕ) a + S40x64.size a ≤ S40x4096.size a) (x : S40x64.Idx) :
    poolRow (v.readCov (Val := Elt Ideal) [⟨Rect.unit (s := S40x16384) ![0, 0] S40x16384.size inb0, f⟩]
        (Rect.unit (s := S40x16384) ![0, 256 * hp] S40x128.size inbA).toLoadRect)
      (v.readCov (Val := Elt Ideal) [⟨Rect.unit (s := S40x16384) ![0, 0] S40x16384.size inb0, f⟩]
        (Rect.unit (s := S40x16384) ![0, 256 * hp + 128] S40x128.size inbB).toLoadRect) x
      = pooledV f ((Rect.unit (s := S40x4096) ![0, 64 * hp] S40x64.size inbO).emb x) := by
  obtain ⟨r, w, rfl⟩ : ∃ (r : Fin 40) (w : Fin 64), x = ix2 r w := ⟨x 0, x 1, eq_ix2 x⟩
  have hc : View.canon (Val := Elt Ideal) (e := .f32) [⟨Rect.unit (s := S40x16384) ![0, 0] S40x16384.size inb0, f⟩] = f :=
    View.canon_cons_unit_lit' (S := S40x16384) (Val := Elt Ideal) (e := .f32) inb0 f [] (by decide)
  have e0 : ((Rect.unit (s := S40x4096) ![0, 64 * hp] S40x64.size inbO).emb (ix2 r w) 0) = r := by
    apply Fin.ext
    show 0 + 1 * r.val = r.val
    omega
  have e1 : ((Rect.unit (s := S40x4096) ![0, 64 * hp] S40x64.size inbO).emb (ix2 r w) 1) = (⟨64 * hp + w.val, by omega⟩ : Fin 4096) := by
    apply Fin.ext
    show 64 * hp + 1 * w.val = 64 * hp + w.val
    omega
  rw [readCov_ld, readCov_ld, hc, poolRow_apply]
  erw [ldF_apply f (256 * hp) (by omega), ldF_apply f (256 * hp + 128) (by omega),
    ldF_apply f (256 * hp) (by omega), ldF_apply f (256 * hp + 128) (by omega)]
  have q : (64 * hp + w.val) / 64 = hp := by omega
  have q' : (64 * hp + w.val) % 64 = w.val := by omega
  show _ = pooled f _ _
  rw [e0, e1]
  unfold pooled
  simp only [q, q']

end Cert.KernelIdeal.Val
-- ==== Proof.Scratch.lean ====
/-
  What the first point of an image leaves in the carried scratch: the pooled projection, row by row, then the keys folded
  with the query weights and the scaled values, and the largest key norm.
-/
module

public import proofs.«01_k».proof.Proof.Pool
public import proofs.«01_k».proof.Proof.Gen.KernelIdeal.Frame
public import Idealize.ShloMosaic.Lib.Pipeline.ReadBack

@[expose] public section

set_option maxRecDepth 16384

noncomputable section

namespace Cert.KernelIdeal.Val

open Idealize.ShloMosaic Idealize.SL.Sem Cert.KernelIdeal Cert.KernelIdeal.Gen

variable (c : Dev nD)
  (arg2 : Memref sig .tc .vmem S1x64x16384 .f32) (harg2 : arg2.IsWhole) (arg4 : Memref sig .tc .vmem S8x64 .f32) (harg4 : arg4.IsWhole)
  (arg5 : Memref sig .tc .vmem S8x64 .f32) (harg5 : arg5.IsWhole) (arg6 : Memref sig .tc .vmem S32x64 .f32) (harg6 : arg6.IsWhole)
  (arg8 : Memref sig .tc .smem S1 .f32) (harg8 : arg8.IsWhole)
  (arg12 : Memref sig .tc .vmem S40x16384 .f32) (arg13 : Memref sig .tc .vmem S40x4096 .f32)
  (x0 : FVec Ideal S1x64x16384 .f32) (x2 : FVec Ideal S8x64 .f32) (x3 : FVec Ideal S8x64 .f32) (x4 : FVec Ideal S32x64 .f32)
  (x6 : FVec Ideal S1 .f32)

/-- Each of the 64 stores into the pooling scratch is its row of the pooled projection. -/
theorem pool_pieces : View.PiecesOf (pooledV (kernelRun0_A.sl.v150 (F := Ideal) c arg2 harg2 arg5 harg5 arg6 harg6 x0 x3 x4))
    (kernelRun0_A.sl.HS3_64 (F := Ideal) c arg2 harg2 arg5 harg5 arg6 harg6 arg12 x0 x3 x4) :=
  ⟨fun x => pool_piece arg12.view _ _ 63 (by decide) (by decide) (by decide) (by decide) x,
    fun x => pool_piece arg12.view _ _ 62 (by decide) (by decide) (by decide) (by decide) x,
    fun x => pool_piece arg12.view _ _ 61 (by decide) (by decide) (by decide) (by decide) x,
    fun x => pool_piece arg12.view _ _ 60 (by decide) (by decide) (by decide) (by decide) x,
    fun x => pool_piece arg12.view _ _ 59 (by decide) (by decide) (by decide) (by decide) x,
    fun x => pool_piece arg12.view _ _ 58 (by decide) (by decide) (by decide) (by decide) x,
    fun x => pool_piece arg12.view _ _ 57 (by decide) (by decide) (by decide) (by decide) x,
    fun x => pool_piece arg12.view _ _ 56 (by decide) (by decide) (by decide) (by decide) x,
    fun x => pool_piece arg12.view _ _ 55 (by decide) (by decide) (by decide) (by decide) x,
    fun x => pool_piece arg12.view _ _ 54 (by decide) (by decide) (by decide) (by decide) x,
    fun x => pool_piece arg12.view _ _ 53 (by decide) (by decide) (by decide) (by decide) x,
    fun x => pool_piece arg12.view _ _ 52 (by decide) (by decide) (by decide) (by decide) x,
    fun x => pool_piece arg12.view _ _ 51 (by decide) (by decide) (by decide) (by decide) x,
    fun x => pool_piece arg12.view _ _ 50 (by decide) (by decide) (by decide) (by decide) x,
    fun x => pool_piece arg12.view _ _ 49 (by decide) (by decide) (by decide) (by decide) x,
    fun x => pool_piece arg12.view _ _ 48 (by decide) (by decide) (by decide) (by decide) x,
    fun x => pool_piece arg12.view _ _ 47 (by decide) (by decide) (by decide) (by decide) x,
    fun x => pool_piece arg12.view _ _ 46 (by decide) (by decide) (by decide) (by decide) x,
    fun x => pool_piece arg12.view _ _ 45 (by decide) (by decide) (by decide) (by decide) x,
    fun x => pool_piece arg12.view _ _ 44 (by decide) (by decide) (by decide) (by decide) x,
    fun x => pool_piece arg12.view _ _ 43 (by decide) (by decide) (by decide) (by decide) x,
    fun x => pool_piece arg12.view _ _ 42 (by decide) (by decide) (by decide) (by decide) x,
    fun x => pool_piece arg12.view _ _ 41 (by decide) (by decide) (by decide) (by decide) x,
    fun x => pool_piece arg12.view _ _ 40 (by decide) (by decide) (by decide) (by decide) x,
    fun x => pool_piece arg12.view _ _ 39 (by decide) (by decide) (by decide) (by decide) x,
    fun x => pool_piece arg12.view _ _ 38 (by decide) (by decide) (by decide) (by decide) x,
    fun x => pool_piece arg12.view _ _ 37 (by decide) (by decide) (by decide) (by decide) x,
    fun x => pool_piece arg12.view _ _ 36 (by decide) (by decide) (by decide) (by decide) x,
    fun x => pool_piece arg12.view _ _ 35 (by decide) (by decide) (by decide) (by decide) x,
    fun x => pool_piece arg12.view _ _ 34 (by decide) (by decide) (by decide) (by decide) x,
    fun x => pool_piece arg12.view _ _ 33 (by decide) (by decide) (by decide) (by decide) x,
    fun x => pool_piece arg12.view _ _ 32 (by decide) (by decide) (by decide) (by decide) x,
    fun x => pool_piece arg12.view _ _ 31 (by decide) (by decide) (by decide) (by decide) x,
    fun x => pool_piece arg12.view _ _ 30 (by decide) (by decide) (by decide) (by decide) x,
    fun x => pool_piece arg12.view _ _ 29 (by decide) (by decide) (by decide) (by decide) x,
    fun x => pool_piece arg12.view _ _ 28 (by decide) (by decide) (by decide) (by decide) x,
    fun x => pool_piece arg12.view _ _ 27 (by decide) (by decide) (by decide) (by decide) x,
    fun x => pool_piece arg12.view _ _ 26 (by decide) (by decide) (by decide) (by decide) x,
    fun x => pool_piece arg12.view _ _ 25 (by decide) (by decide) (by decide) (by decide) x,
    fun x => pool_piece arg12.view _ _ 24 (by decide) (by decide) (by decide) (by decide) x,
    fun x => pool_piece arg12.view _ _ 23 (by decide) (by decide) (by decide) (by decide) x,
    fun x => pool_piece arg12.view _ _ 22 (by decide) (by decide) (by decide) (by decide) x,
    fun x => pool_piece arg12.view _ _ 21 (by decide) (by decide) (by decide) (by decide) x,
    fun x => pool_piece arg12.view _ _ 20 (by decide) (by decide) (by decide) (by decide) x,
    fun x => pool_piece arg12.view _ _ 19 (by decide) (by decide) (by decide) (by decide) x,
    fun x => pool_piece arg12.view _ _ 18 (by decide) (by decide) (by decide) (by decide) x,
    fun x => pool_piece arg12.view _ _ 17 (by decide) (by decide) (by decide) (by decide) x,
    fun x => pool_piece arg12.view _ _ 16 (by decide) (by decide) (by decide) (by decide) x,
    fun x => pool_piece arg12.view _ _ 15 (by decide) (by decide) (by decide) (by decide) x,
    fun x => pool_piece arg12.view _ _ 14 (by decide) (by decide) (by decide) (by decide) x,
    fun x => pool_piece arg12.view _ _ 13 (by decide) (by decide) (by decide) (by decide) x,
    fun x => pool_piece arg12.view _ _ 12 (by decide) (by decide) (by decide) (by decide) x,
    fun x => pool_piece arg12.view _ _ 11 (by decide) (by decide) (by decide) (by decide) x,
    fun x => pool_piece arg12.view _ _ 10 (by decide) (by decide) (by decide) (by decide) x,
    fun x => pool_piece arg12.view _ _ 9 (by decide) (by decide) (by decide) (by decide) x,
    fun x => pool_piece arg12.view _ _ 8 (by decide) (by decide) (by decide) (by decide) x,
    fun x => pool_piece arg12.view _ _ 7 (by decide) (by decide) (by decide) (by decide) x,
    fun x => pool_piece arg12.view _ _ 6 (by decide) (by decide) (by decide) (by decide) x,
    fun x => pool_piece arg12.view _ _ 5 (by decide) (by decide) (by decide) (by decide) x,
    fun x => pool_piece arg12.view _ _ 4 (by decide) (by decide) (by decide) (by decide) x,
    fun x => pool_piece arg12.view _ _ 3 (by decide) (by decide) (by decide) (by decide) x,
    fun x => pool_piece arg12.view _ _ 2 (by decide) (by decide) (by decide) (by decide) x,
    fun x => pool_piece arg12.view _ _ 1 (by decide) (by decide) (by decide) (by decide) x,
    fun x => pool_piece arg12.view _ _ 0 (by decide) (by decide) (by decide) (by decide) x, trivial⟩

/-- The pooling scratch after its 64 stores is the pooled projection. -/
theorem pool_canon : View.canon (kernelRun0_A.sl.HS3_64 (F := Ideal) c arg2 harg2 arg5 harg5 arg6 harg6 arg12 x0 x3 x4)
    = pooledV (kernelRun0_A.sl.v150 (F := Ideal) c arg2 harg2 arg5 harg5 arg6 harg6 x0 x3 x4) := by
  funext y
  refine View.canon_apply_of_pieces _ _ (pool_pieces c arg2 harg2 arg5 harg5 arg6 harg6 arg12 x0 x3 x4).mem y ?_
  exact View.cover_of_tiled _ ![40, 64] (by rfl) y

theorem proj_eq : kernelRun0_A.sl.v150 (F := Ideal) c arg2 harg2 arg5 harg5 arg6 harg6 x0 x3 x4 = k0_pay3 x0 x3 x4 := by
  unfold kernelRun0_A.sl.v150 kernelRun0_A.sl.v147 kernelRun0_A.sl.v146 kernelRun0_A.sl.v143
  simp (disch := decide) only [View.readAt_eq_ld, Memref.IsWhole.read_unread, View.ld_unit_lit']
  have e3 : View.ld (Val := Elt Ideal) (View.read (Elt Ideal) arg5.view (harg5.unread x3)) (Rect.unit (s := S8x64) ![0, 0] ![8, 64] (by decide)) = x3 := by
    rw [Memref.IsWhole.read_unread]
    exact View.ld_unit_lit' (S := S8x64) (by decide) _ (by decide)
  have e4 : View.ld (Val := Elt Ideal) (View.read (Elt Ideal) arg6.view (harg6.unread x4)) (Rect.unit (s := S32x64) ![0, 0] ![32, 64] (by decide)) = x4 := by
    rw [Memref.IsWhole.read_unread]
    exact View.ld_unit_lit' (S := S32x64) (by decide) _ (by decide)
  refine (show _ = shapeCast S40x16384 (matmul dot_S40x64_S64x16384_S40x16384_1_0_0_1_n_n none (concatenate S40x64 0 [⟨S8x64, _⟩, ⟨S32x64, _⟩] _) _ _) _ from rfl).trans ?_
  rw [e3, e4]
  rfl

/-- The key and value scratch as filled at the first point of an image, from the pooled projection `P`. -/
def kgVal (P : FVec Ideal S40x4096 .f32) (x2 : FVec Ideal S8x64 .f32) (x6 : FVec Ideal S1 .f32) : FVec Ideal S128x4096 .bf16 :=
  View.canon (Val := Elt Ideal) (e := .bf16) [
    ⟨Rect.unit (s := S128x4096) ![112, 0] S16x4096.size (by decide), k0_pay94 (F := Ideal)⟩,
    ⟨Rect.unit (s := S128x4096) ![80, 0] S32x4096.size (by decide),
      k0_pay93 (F := Ideal) (View.ld (Val := Elt Ideal) (e' := .f32) P (Rect.unit (s := S40x4096) ![8, 0] S32x4096.size (by decide)))
        (View.ld (Val := Elt Ideal) (e' := .f32) x6 (Rect.unit (s := S1) ![0] S1.size (by decide)) (Shape.Idx.first (by decide)))⟩,
    ⟨Rect.unit (s := S128x4096) ![64, 0] S16x4096.size (by decide), k0_pay92 (F := Ideal)⟩,
    ⟨Rect.unit (s := S128x4096) ![0, 0] S64x4096.size (by decide),
      k0_pay91 (F := Ideal) x2 k0_pay88
        (View.ld (Val := Elt Ideal) (e' := .f32) P (Rect.unit (s := S40x4096) ![0, 0] S8x4096.size (by decide)))⟩]

/-- The largest key norm as stored at the first point of an image. -/
def kmVal (P : FVec Ideal S40x4096 .f32) (x2 : FVec Ideal S8x64 .f32) : FVec Ideal S1x1 .f32 :=
  k0_pay96 (F := Ideal) (k0_pay95 (F := Ideal) x2 k0_pay88
    (View.ld (Val := Elt Ideal) (e' := .f32) P (Rect.unit (s := S40x4096) ![0, 0] S8x4096.size (by decide))))

theorem kg_eq : View.canon (kernelRun0_A.sl.HS0_4 (F := Ideal) c arg2 harg2 arg4 harg4 arg5 harg5 arg6 harg6 arg8 harg8 arg12 arg13 x0 x2 x3 x4 x6)
    = kgVal (pooledV (k0_pay3 x0 x3 x4)) x2 x6 := by
  unfold kernelRun0_A.sl.HS0_4 kernelRun0_A.sl.v769 kernelRun0_A.sl.v766 kernelRun0_A.sl.v765 kernelRun0_A.sl.v764 kernelRun0_A.sl.r_1 kernelRun0_A.sl.v762 kernelRun0_A.sl.v758
    kernelRun0_A.sl.v755 kernelRun0_A.sl.v747 kernelRun0_A.sl.v746 kernelRun0_A.sl.v745 kernelRun0_A.sl.r
  simp only [readCov_ld, pool_canon, proj_eq]
  simp (disch := decide) only [View.readAt_eq_ld, Memref.IsWhole.read_unread, View.ld_unit_lit']
  rfl

theorem km_eq : View.canon (kernelRun0_A.sl.HS1_1 (F := Ideal) c arg2 harg2 arg4 harg4 arg5 harg5 arg6 harg6 arg12 arg13 x0 x2 x3 x4)
    = kmVal (pooledV (k0_pay3 x0 x3 x4)) x2 := by
  unfold kernelRun0_A.sl.HS1_1 kernelRun0_A.sl.v778 kernelRun0_A.sl.v777 kernelRun0_A.sl.v776 kernelRun0_A.sl.v775 kernelRun0_A.sl.v774
    kernelRun0_A.sl.v773 kernelRun0_A.sl.v747 kernelRun0_A.sl.v746 kernelRun0_A.sl.v745 kernelRun0_A.sl.r
  simp only [readCov_ld, pool_canon, proj_eq]
  simp (disch := decide) only [View.readAt_eq_ld, Memref.IsWhole.read_unread, View.ld_unit_lit', View.canon_cons_unit_lit']
  rfl

end Cert.KernelIdeal.Val
-- ==== Proof.Keys.lean ====
/-
  The key and value scratch at an index: folded keys, a row of ones, scaled values, another row of ones; and the
  largest key norm.
-/
module

public import proofs.«01_k».proof.Proof.Scratch

@[expose] public section

set_option maxRecDepth 16384

noncomputable section

namespace Cert.KernelIdeal.Val

open Idealize.ShloMosaic Cert.KernelIdeal Cert.KernelIdeal.Gen

/-- The constant the query weights are scaled by: one over the natural logarithm of two. -/
def L2 : EReal := (((Real.log 2)⁻¹ : ℝ) : EReal)

/-- The projection: the first 8 rows are the key weights applied to the image, the other 32 the value weights. -/
theorem proj_apply (x0 : FVec Ideal S1x64x16384 .f32) (x3 : FVec Ideal S8x64 .f32) (x4 : FVec Ideal S32x64 .f32) (r : Fin 40) (n : Fin 16384) :
    k0_pay3 (F := Ideal) x0 x3 x4 (ix2 r n)
      = ∑ c : Fin 64, (if h : r.val < 8 then x3 (ix2 ⟨r.val, h⟩ c) else x4 (ix2 ⟨r.val - 8, by omega⟩ c)) * x0 (ix3 0 c n) := by
  pointwise [k0_pay3]

theorem log2e_apply (o : Fin 8) (c : Fin 64) : k0_pay88 (F := Ideal) (ix2 o c) = L2 := by
  pointwise [k0_pay88]
  exact IdealRules.named_const.ideal_named_scalar _ _ _ _ rfl

/-- A folded key: the scaled query weights' column `c` against the pooled keys at `m`. -/
def keff (P : FVec Ideal S40x4096 .f32) (x2 : FVec Ideal S8x64 .f32) (c : Fin 64) (m : Fin 4096) : EReal :=
  ∑ o : Fin 8, (x2 (ix2 o c) * L2) * P (ix2 ⟨o.val, by omega⟩ m)

theorem ldP_apply (P : FVec Ideal S40x4096 .f32) (inb : ∀ a, (![0, 0] : Fin 2 → ℕ) a + (![8, 4096] : Fin 2 → ℕ) a ≤ S40x4096.size a) (o : Fin 8) (m : Fin 4096) :
    View.ld (Val := Elt Ideal) (e' := .f32) P (Rect.unit (s := S40x4096) ![0, 0] ![8, 4096] inb) (ix2 o m) = P (ix2 ⟨o.val, by omega⟩ m) := by
  pointwise

theorem ldV_apply (P : FVec Ideal S40x4096 .f32) (inb : ∀ a, (![8, 0] : Fin 2 → ℕ) a + (![32, 4096] : Fin 2 → ℕ) a ≤ S40x4096.size a) (o : Fin 32) (m : Fin 4096) :
    View.ld (Val := Elt Ideal) (e' := .f32) P (Rect.unit (s := S40x4096) ![8, 0] ![32, 4096] inb) (ix2 o m) = P (ix2 ⟨8 + o.val, by omega⟩ m) := by
  pointwise

theorem pay89_apply (x2 : FVec Ideal S8x64 .f32) (w : FVec Ideal S8x64 .f32) (p : FVec Ideal S8x4096 .f32) (c : Fin 64) (m : Fin 4096) :
    k0_pay89 (F := Ideal) x2 w p (ix2 c m) = ∑ o : Fin 8, (x2 (ix2 o c) * w (ix2 o c)) * p (ix2 o m) := by
  pointwise [k0_pay89]

theorem pay91_apply (x2 : FVec Ideal S8x64 .f32) (w : FVec Ideal S8x64 .f32) (p : FVec Ideal S8x4096 .f32) (c : Fin 64) (m : Fin 4096) :
    k0_pay91 (F := Ideal) x2 w p (ix2 c m) = ∑ o : Fin 8, (x2 (ix2 o c) * w (ix2 o c)) * p (ix2 o m) := by
  pointwise [k0_pay91, k0_pay89]

theorem pay92_apply (r : Fin 16) (m : Fin 4096) : k0_pay92 (F := Ideal) (ix2 r m) = if r.val = 0 then 1 else 0 := by
  pointwise [k0_pay92, k0_pay90]
  rw [select_eq_word _ _ (by omega) (by omega)]

theorem pay94_apply (r : Fin 16) (m : Fin 4096) : k0_pay94 (F := Ideal) (ix2 r m) = if r.val = 0 then 1 else 0 := by
  pointwise [k0_pay94, k0_pay90]
  rw [select_eq_word _ _ (by omega) (by omega)]

theorem pay93_apply (p : FVec Ideal S32x4096 .f32) (g : EReal) (j : Fin 32) (m : Fin 4096) :
    k0_pay93 (F := Ideal) p g (ix2 j m) = p (ix2 j m) * g := by
  pointwise [k0_pay93]

theorem pay95_apply (x2 : FVec Ideal S8x64 .f32) (w : FVec Ideal S8x64 .f32) (p : FVec Ideal S8x4096 .f32) :
    k0_pay96 (F := Ideal) (k0_pay95 (F := Ideal) x2 w p) (ix2 0 0)
      = Ideal.sqrt (Finset.univ.fold max ⊥ fun m : Fin 4096 => ∑ c : Fin 64, k0_pay89 (F := Ideal) x2 w p (ix2 c m) * k0_pay89 (F := Ideal) x2 w p (ix2 c m)) := by
  pointwise [k0_pay96, k0_pay95]
  rfl

/-- The four stores cover the scratch. -/
theorem kg_cover (w0 : FVec Ideal S16x4096 .bf16) (w1 : FVec Ideal S32x4096 .bf16) (w2 : FVec Ideal S16x4096 .bf16) (w3 : FVec Ideal S64x4096 .bf16)
    (y : S128x4096.Idx) : ∃ p ∈ ([
      ⟨Rect.unit (s := S128x4096) ![112, 0] S16x4096.size (by decide), w0⟩, ⟨Rect.unit (s := S128x4096) ![80, 0] S32x4096.size (by decide), w1⟩,
      ⟨Rect.unit (s := S128x4096) ![64, 0] S16x4096.size (by decide), w2⟩, ⟨Rect.unit (s := S128x4096) ![0, 0] S64x4096.size (by decide), w3⟩]
      : List (View.Piece (Elt Ideal) S128x4096 .bf16)), y ∈ p.1.set := by
  have h0 : (y 0).val < 128 := (y 0).isLt
  have h1 : (y 1).val < 4096 := (y 1).isLt
  have hy {o n : ℕ} (inb : ∀ a, (![o, 0] : Fin 2 → ℕ) a + (![n, 4096] : Fin 2 → ℕ) a ≤ S128x4096.size a) (h : o ≤ (y 0).val ∧ (y 0).val < o + n) :
      y ∈ (Rect.unit (s := S128x4096) ![o, 0] ![n, 4096] inb).set := by
    refine Rect.mem_set_unit.mpr (Fin.forall_fin_two.mpr ⟨?_, ?_⟩)
    · exact h
    · exact ⟨Nat.zero_le _, by show (y 1).val < 0 + 4096; omega⟩
  by_cases a : (y 0).val < 64
  · exact ⟨_, .tail _ (.tail _ (.tail _ (.head _))), hy (by decide) ⟨by omega, by omega⟩⟩
  by_cases b : (y 0).val < 80
  · exact ⟨_, .tail _ (.tail _ (.head _)), hy (by decide) ⟨by omega, by omega⟩⟩
  by_cases c : (y 0).val < 112
  · exact ⟨_, .tail _ (.head _), hy (by decide) ⟨by omega, by omega⟩⟩
  · exact ⟨_, .head _, hy (by decide) ⟨by omega, by omega⟩⟩

/-- The scratch at an index. -/
theorem kg_apply (P : FVec Ideal S40x4096 .f32) (x2 : FVec Ideal S8x64 .f32) (x6 : FVec Ideal S1 .f32) (a : Fin 128) (m : Fin 4096) :
    kgVal P x2 x6 (ix2 a m) = if h : a.val < 64 then keff P x2 ⟨a.val, h⟩ m
      else if a.val = 64 then 1 else if h' : a.val < 80 then 0
      else if h'' : a.val < 112 then P (ix2 ⟨a.val - 72, by omega⟩ m) * x6 (ix1 0)
      else if a.val = 112 then 1 else 0 := by
  have hb : a.val < 128 ∧ m.val < 4096 := ⟨a.isLt, m.isLt⟩
  unfold kgVal
  canon_tiles x h using kg_cover _ _ _ _ _
  case piece0 =>
    obtain ⟨r, w, rfl⟩ : ∃ (r : Fin 16) (w : Fin 4096), x = ix2 r w := ⟨x 0, x 1, eq_ix2 x⟩
    replace h0 : a.val = 112 + r.val := h0
    obtain rfl : m = w := Fin.ext h1
    rw [pay94_apply, dif_neg (by omega), if_neg (show ¬ a.val = 64 by omega), dif_neg (by omega), dif_neg (by omega)]
    by_cases q : r.val = 0
    · rw [if_pos q, if_pos (by omega)]
    · rw [if_neg q, if_neg (by omega)]
  case piece1 =>
    obtain ⟨r, w, rfl⟩ : ∃ (r : Fin 32) (w : Fin 4096), x = ix2 r w := ⟨x 0, x 1, eq_ix2 x⟩
    replace h0 : a.val = 80 + r.val := h0
    obtain rfl : m = w := Fin.ext h1
    rw [pay93_apply, dif_neg (by omega), if_neg (show ¬ a.val = 64 by omega), dif_neg (by omega), dif_pos (by omega)]
    erw [ldV_apply]
    congr 2
    · exact congrArg (ix2 · m) (Fin.ext (by show 8 + r.val = a.val - 72; omega))
    · refine congrArg x6 (funext fun q => ?_)
      fin_cases q
      rfl
  case piece2 =>
    obtain ⟨r, w, rfl⟩ : ∃ (r : Fin 16) (w : Fin 4096), x = ix2 r w := ⟨x 0, x 1, eq_ix2 x⟩
    replace h0 : a.val = 64 + r.val := h0
    obtain rfl : m = w := Fin.ext h1
    rw [pay92_apply, dif_neg (by omega)]
    by_cases q : r.val = 0
    · rw [if_pos q, if_pos (by omega)]
    · rw [if_neg q, if_neg (by omega), dif_pos (by omega)]
  case piece3 =>
    obtain ⟨r, w, rfl⟩ : ∃ (r : Fin 64) (w : Fin 4096), x = ix2 r w := ⟨x 0, x 1, eq_ix2 x⟩
    replace h0 : a.val = r.val := h0
    obtain rfl : m = w := Fin.ext h1
    rw [pay91_apply, dif_pos (by omega)]
    unfold keff
    refine Finset.sum_congr rfl fun o _ => ?_
    erw [log2e_apply, ldP_apply]
    have e : ∀ h, (⟨a.val, h⟩ : Fin 64) = r := fun _ => Fin.ext h0
    rw [e]

/-- The largest key norm. -/
theorem km_apply (P : FVec Ideal S40x4096 .f32) (x2 : FVec Ideal S8x64 .f32) : kmVal P x2 (ix2 0 0)
    = Ideal.sqrt (Finset.univ.fold max ⊥ fun m : Fin 4096 => ∑ c : Fin 64, keff P x2 c m * keff P x2 c m) := by
  unfold kmVal
  rw [pay95_apply]
  have e (c : Fin 64) (m : Fin 4096) : k0_pay89 (F := Ideal) x2 k0_pay88
      (View.ld (Val := Elt Ideal) (e' := .f32) P (Rect.unit (s := S40x4096) ![0, 0] S8x4096.size (by decide))) (ix2 c m) = keff P x2 c m := by
    rw [pay89_apply]
    refine Finset.sum_congr rfl fun o _ => ?_
    erw [log2e_apply, ldP_apply]
  simp only [e]

end Cert.KernelIdeal.Val
-- ==== Proof.Column.lean ====
/-
  A point's output block at an index, and the two carried scratch buffers after every point: those of its image.
-/
module

public import proofs.«01_k».proof.Proof.Opened
public import proofs.«01_k».proof.Proof.Keys

@[expose] public section

set_option maxRecDepth 16384

noncomputable section

namespace Cert.KernelIdeal.Val

open Idealize.ShloMosaic Idealize.SL.Sem Cert.KernelIdeal Cert.KernelIdeal.Gen

/-- Two to the score of query `n` of a block with key `m`. -/
def wgt (x1 : FVec Ideal S1x64x2048 .f32) (kg : FVec Ideal S128x4096 .bf16) (km : FVec Ideal S1x1 .f32) (n : Fin 2048) (m : Fin 4096) : EReal :=
  Ideal.exp2 (∑ a : Fin 80, k0_pay98 (F := Ideal) x1 km (ix2 a n) * kg (ix2 ⟨a.val, by omega⟩ m))

/-- The output of channel `c` at query `n` of a block. -/
def column (x1 : FVec Ideal S1x64x2048 .f32) (kg : FVec Ideal S128x4096 .bf16) (km : FVec Ideal S1x1 .f32) (wo : FVec Ideal S64x32 .f32)
    (c : Fin 64) (n : Fin 2048) : EReal :=
  Ideal.div (∑ j : Fin 32, wo (ix2 c j) * ∑ m : Fin 4096, kg (ix2 ⟨80 + j.val, by omega⟩ m) * wgt x1 kg km n m)
    (∑ m : Fin 4096, kg (ix2 112 m) * wgt x1 kg km n m) + x1 (ix3 0 c n)

theorem lo_apply (x1 : FVec Ideal S1x64x2048 .f32) (km : FVec Ideal S1x1 .f32) (a : Fin 80) (n : Fin 1024) :
    k0_pay99 (F := Ideal) x1 km (ix2 a n) = k0_pay98 (F := Ideal) x1 km (ix2 a ⟨n.val, by omega⟩) := by
  pointwise [k0_pay99]

theorem hi_apply (x1 : FVec Ideal S1x64x2048 .f32) (km : FVec Ideal S1x1 .f32) (a : Fin 80) (n : Fin 1024) :
    k0_pay100 (F := Ideal) x1 km (ix2 a n) = k0_pay98 (F := Ideal) x1 km (ix2 a ⟨1024 + n.val, by omega⟩) := by
  pointwise [k0_pay100]

theorem lox_apply (x1 : FVec Ideal S1x64x2048 .f32) (c : Fin 64) (n : Fin 1024) :
    extractStridedSlice S64x1024 ![0, 0] (k0_pay97 (F := Ideal) x1) Facts₀.slices_S64x2048_o0_0_S64x1024 (ix2 c n) = x1 (ix3 0 c ⟨n.val, by omega⟩) := by
  pointwise [k0_pay97]

theorem hix_apply (x1 : FVec Ideal S1x64x2048 .f32) (c : Fin 64) (n : Fin 1024) :
    extractStridedSlice S64x1024 ![0, 1024] (k0_pay97 (F := Ideal) x1) Facts₀.slices_S64x2048_o0_1024_S64x1024 (ix2 c n) = x1 (ix3 0 c ⟨1024 + n.val, by omega⟩) := by
  pointwise [k0_pay97]

theorem pointOut_apply (x1 : FVec Ideal S1x64x2048 .f32) (kg : FVec Ideal S128x4096 .bf16) (km : FVec Ideal S1x1 .f32) (wo : FVec Ideal S64x32 .f32)
    (c : Fin 64) (n : Fin 2048) : pointOut x1 kg km wo (ix3 0 c n) = column x1 kg km wo c n := by
  have hb : n.val < 2048 := n.isLt
  unfold pointOut
  canon_tiles x h
  case piece0 =>
    obtain ⟨z, d, w, rfl⟩ : ∃ (z : Fin 1) (d : Fin 64) (w : Fin 1024), x = ix3 z d w := ⟨x 0, x 1, x 2, eq_ix3 x⟩
    obtain rfl : z = 0 := Subsingleton.elim _ _
    obtain rfl : c = d := Fin.ext h1
    have e : n = ⟨1024 + w.val, by have := w.isLt; clear h0 h1 h2 hb x0_lt x1_lt x2_lt; omega⟩ := Fin.ext h2
    rw [half_apply]
    simp only [gathered_apply, hix_apply]
    subst e
    unfold column wgt term
    simp only [hi_apply]
    rfl
  case piece1 =>
    obtain ⟨z, d, w, rfl⟩ : ∃ (z : Fin 1) (d : Fin 64) (w : Fin 1024), x = ix3 z d w := ⟨x 0, x 1, x 2, eq_ix3 x⟩
    obtain rfl : z = 0 := Subsingleton.elim _ _
    obtain rfl : c = d := Fin.ext h1
    have e : n = ⟨w.val, by have := w.isLt; clear h0 h1 h2 hb x0_lt x1_lt x2_lt; omega⟩ := Fin.ext h2
    rw [half_apply]
    simp only [gathered_apply, lox_apply]
    subst e
    unfold column wgt term
    simp only [lo_apply]
    rfl

variable (m : (ℓ : Loc nD τ sig) → Buf (Elt Ideal) ℓ)

/-- The pooled projection of the image of point `t`. -/
def Pt (c : Dev nD) (t : Fin cfg0.N) : FVec Ideal S40x4096 .f32 :=
  pooledV (k0_pay3 (F := Ideal) (iblk m c 0 t) (iblk m c 3 t) (iblk m c 4 t))

theorem scratch_A (c : Dev nD) (t : Fin cfg0.N) (h : t.val % 8 = 0) :
    (outsAt0 m c t.val t.isLt).2.1 = kgVal (Pt m c t) (iblk m c 2 t) (iblk m c 6 t)
    ∧ (outsAt0 m c t.val t.isLt).2.2 = kmVal (Pt m c t) (iblk m c 2 t) := by
  rw [outsAt0_A m c t h]; dsimp only
  unfold sout0_A_0 sout0_A_1
  simp only [View.read_writes_junk_eq_canon]
  unfold kernelRun0_A
  dsimp only
  exact ⟨kg_eq .., km_eq ..⟩

theorem scratch_B (c : Dev nD) (t : Fin cfg0.N) (h : ¬ t.val % 8 = 0) :
    (outsAt0 m c t.val t.isLt).2.1 = (outsAt0 m c (t.val - 1) (by have := t.isLt; omega)).2.1
    ∧ (outsAt0 m c t.val t.isLt).2.2 = (outsAt0 m c (t.val - 1) (by have := t.isLt; omega)).2.2 := by
  rw [outsAt0_B m c t h]; dsimp only
  unfold sout0_B_0 sout0_B_1
  simp only [read_unread_whole]
  exact ⟨trivial, trivial⟩

end Cert.KernelIdeal.Val
-- ==== Proof.Blocks.lean ====
/-
  Where the blocks of a grid point lie in their arrays, and what the arrays hold when the pipeline starts.
-/
module

public import proofs.«01_k».proof.Proof.Column

@[expose] public section

set_option maxRecDepth 16384

noncomputable section

namespace Cert.KernelIdeal.Val

open Idealize.ShloMosaic Idealize.SL.Sem Cert.KernelIdeal Cert.KernelIdeal.Gen

theorem at0 : ∀ t : Fin cfg0.N, win0_0.index t = ![t.val / 8, 0, 0] := (by decide +kernel : ∀ t : Fin grid0.N, _)
theorem at1 : ∀ t : Fin cfg0.N, win0_1.index t = ![t.val / 8, 0, t.val % 8] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0] := (by decide +kernel : ∀ t : Fin grid0.N, _)
theorem at7 : ∀ t : Fin cfg0.N, win0_7.index t = ![t.val / 8, 0, t.val % 8] := (by decide +kernel : ∀ t : Fin grid0.N, _)

theorem tlt (t : Fin cfg0.N) : t.val < 32 := lt_of_lt_of_eq t.isLt N_0

variable (m : (ℓ : Loc nD τ sig) → Buf (Elt Ideal) ℓ) (c : Dev nD) (t : Fin cfg0.N)

/-- Image `b` of the flattened input. -/
def img (b : Fin 4) : FVec Ideal S1x64x16384 .f32 := fun y => V m c main_v0 (ix3 b (y 1) (y 2))

theorem blk0 : iblk m c 0 t = img m c ⟨t.val / 8, by have := tlt t; omega⟩ := by
  funext y
  obtain ⟨z, d, n, rfl⟩ : ∃ (z : Fin 1) (d : Fin 64) (n : Fin 16384), y = ix3 z d n := ⟨y 0, y 1, y 2, eq_ix3 y⟩
  blk_simp [iblk]
  unfold img
  congr 1
  blk_ext [at0 t]

theorem blk1 (d : Fin 64) (n : Fin 2048) : iblk m c 1 t (ix3 0 d n)
    = V m c main_v0 (ix3 (⟨t.val / 8, by have := tlt t; omega⟩ : Fin 4) d (⟨2048 * (t.val % 8) + n.val, by omega⟩ : Fin 16384)) := by
  blk_simp [iblk]
  congr 1
  blk_ext [at1 t]

/-- The arguments, as blocks. -/
def aX : FVec Ideal S4x64x128x128 .f32 := m ((c.tc : Thread nD τ).loc main_arg0)
def aT : FVec Ideal S8x64 .f32 := m ((c.tc : Thread nD τ).loc main_arg1)
def aP : FVec Ideal S8x64 .f32 := m ((c.tc : Thread nD τ).loc main_arg2)
def aG : FVec Ideal S32x64 .f32 := m ((c.tc : Thread nD τ).loc main_arg3)
def aO : FVec Ideal S64x32 .f32 := m ((c.tc : Thread nD τ).loc main_arg4)
def aS : FVec Ideal S_ .f32 := m ((c.tc : Thread nD τ).loc main_arg5)

theorem blk2 : iblk m c 2 t = aT m c := by
  unfold aT
  rw [← V_main_arg1 m c]
  funext y
  blk_simp [iblk]
  congr 1
  blk_ext [at2 t]

theorem blk3 : iblk m c 3 t = aP m c := by
  unfold aP
  rw [← V_main_arg2 m c]
  funext y
  blk_simp [iblk]
  congr 1
  blk_ext [at3 t]

theorem blk4 : iblk m c 4 t = aG m c := by
  unfold aG
  rw [← V_main_arg3 m c]
  funext y
  blk_simp [iblk]
  congr 1
  blk_ext [at4 t]

theorem blk5 : iblk m c 5 t = aO m c := by
  unfold aO
  rw [← V_main_arg4 m c]
  funext y
  blk_simp [iblk]
  congr 1
  blk_ext [at5 t]

theorem blk6 : iblk m c 6 t (ix1 0) = V m c main_v1 (ix1 0) := by
  blk_simp [iblk]
  congr 1
  blk_ext [at6 t]

theorem v0_eq : V m c main_v0 = shapeCast S4x64x16384 (aX m c) shapeCasts_S4x64x128x128_S4x64x16384 := by
  simp only [V, V0, hostOps0, List.flatten_cons, List.flatten_nil, List.append_nil]
  after_results
  rfl

theorem v1_eq : V m c main_v1 = shapeCast S1 (aS m c) shapeCasts_S_S1 := by
  simp only [V, V0, hostOps0, List.flatten_cons, List.flatten_nil, List.append_nil]
  after_results
  rfl

end Cert.KernelIdeal.Val
-- ==== Proof.Result.lean ====
/-
  The kernel's result array: at image `b`, channel `d` and position `n`, one closed expression in the arguments.
-/
module

public import proofs.«01_k».proof.Proof.Blocks

@[expose] public section

set_option maxRecDepth 16384

noncomputable section

namespace Cert.KernelIdeal.Val

open Idealize.ShloMosaic Idealize.SL.Sem Cert.KernelIdeal Cert.KernelIdeal.Gen

variable (m : (ℓ : Loc nD τ sig) → Buf (Elt Ideal) ℓ) (c : Dev nD)

/-- The flattened input at an index. -/
def xin (b : Fin 4) (d : Fin 64) (n : Fin 16384) : EReal := aX m c (ix4 b d ⟨n.val / 128, by omega⟩ ⟨n.val % 128, by omega⟩)

theorem v0_apply (b : Fin 4) (d : Fin 64) (n : Fin 16384) : V m c main_v0 (ix3 b d n) = xin m c b d n := by
  rw [v0_eq]
  pointwise
  rfl

/-- The scalar argument. -/
def gam : EReal := aS m c ix0

theorem v1_apply : V m c main_v1 (ix1 0) = gam m c := by
  rw [v1_eq]
  pointwise
  rfl

/-- The pooled projection of image `b`. -/
def pool (b : Fin 4) : FVec Ideal S40x4096 .f32 := pooledV (k0_pay3 (F := Ideal) (img m c b) (aP m c) (aG m c))

theorem blk6' (t : Fin cfg0.N) : iblk m c 6 t = (fun _ => gam m c : FVec Ideal S1 .f32) := by
  funext y
  obtain rfl : y = ix1 0 := by
    funext a
    fin_cases a
    exact Subsingleton.elim (α := Fin 1) _ _
  rw [blk6, v1_apply]

/-- After every point the carried scratch is that of the point's image. -/
theorem scratch_eq (n : ℕ) : ∀ h : n < cfg0.N,
    (outsAt0 m c n h).2.1 = kgVal (pool m c ⟨n / 8, by have := tlt ⟨n, h⟩; dsimp only at this; omega⟩) (aT m c) (fun _ => gam m c)
    ∧ (outsAt0 m c n h).2.2 = kmVal (pool m c ⟨n / 8, by have := tlt ⟨n, h⟩; dsimp only at this; omega⟩) (aT m c) := by
  induction n with
  | zero =>
    intro h
    have q := scratch_A m c ⟨0, h⟩ rfl
    unfold Pt at q
    rw [blk0, blk2, blk3, blk4, blk6'] at q
    exact q
  | succ n ih =>
    intro h
    by_cases h8 : (n + 1) % 8 = 0
    · have q := scratch_A m c ⟨n + 1, h⟩ h8
      unfold Pt at q
      rw [blk0, blk2, blk3, blk4, blk6'] at q
      exact q
    · have q := scratch_B m c ⟨n + 1, h⟩ h8
      have e : (n + 1) / 8 = n / 8 := by omega
      have i := ih (by omega)
      simp only [e]
      exact ⟨q.1.trans i.1, q.2.trans i.2⟩

/-- The largest norm of a folded key of image `b`. -/
def kmax (b : Fin 4) : EReal :=
  Ideal.sqrt (Finset.univ.fold max ⊥ fun k : Fin 4096 => ∑ d : Fin 64, keff (pool m c b) (aT m c) d k * keff (pool m c b) (aT m c) d k)

/-- Two to the shifted score of position `n` of image `b` with key `k`. -/
def wexp (b : Fin 4) (n : Fin 16384) (k : Fin 4096) : EReal :=
  Ideal.exp2 (∑ d : Fin 64, xin m c b d n * keff (pool m c b) (aT m c) d k
    + (0 - Ideal.sqrt (∑ d : Fin 64, xin m c b d n * xin m c b d n) * kmax m c b))

/-- The kernel's result at image `b`, channel `d`, position `n`. -/
def outv (b : Fin 4) (d : Fin 64) (n : Fin 16384) : EReal :=
  Ideal.div (∑ j : Fin 32, aO m c (ix2 d j) * ∑ k : Fin 4096, (pool m c b (ix2 ⟨8 + j.val, by omega⟩ k) * gam m c) * wexp m c b n k)
    (∑ k : Fin 4096, wexp m c b n k) + xin m c b d n

/-- The score sum over the 80 rows: 64 products, the shift, and 15 zeros. -/
theorem sum80 (f : Fin 80 → EReal) (h : ∀ a : Fin 80, 64 < a.val → f a = 0) :
    ∑ a, f a = (∑ d : Fin 64, f ⟨d.val, by omega⟩) + f 64 := by
  have e := Fin.sum_univ_add (a := 64) (b := 16) f
  rw [Fin.sum_univ_succ (fun i : Fin 16 => f (Fin.natAdd 64 i))] at e
  rw [e, Finset.sum_eq_zero (s := Finset.univ) (f := fun i : Fin 15 => f (Fin.natAdd 64 i.succ)), add_zero]
  · rfl
  · intro i _
    exact h _ (by show 64 < 64 + (i.val + 1); omega)

theorem wgt_eq (t : Fin cfg0.N) (b : Fin 4) (hb : b.val = t.val / 8) (n : Fin 2048) (N : Fin 16384)
    (hN : N.val = 2048 * (t.val % 8) + n.val) (k : Fin 4096) :
    wgt (iblk m c 1 t) (kgVal (pool m c b) (aT m c) (fun _ => gam m c)) (kmVal (pool m c b) (aT m c)) n k = wexp m c b N k := by
  have hx (d : Fin 64) : iblk m c 1 t (ix3 0 d n) = xin m c b d N := by
    rw [blk1, v0_apply]
    congr 1
    · exact Fin.ext hb.symm
    · exact Fin.ext hN.symm
  unfold wgt wexp
  congr 1
  rw [sum80]
  · congr 1
    · refine Finset.sum_congr rfl fun d _ => ?_
      rw [xaug_apply, dif_pos d.isLt, kg_apply, dif_pos d.isLt]
      erw [hx]
    · rw [xaug_apply, dif_neg (by decide), if_pos (by decide), kg_apply, dif_neg (by decide), if_pos (by decide), mul_one, km_apply]
      simp only [hx]
      rfl
  · intro a ha
    rw [xaug_apply, dif_neg (by omega), if_neg (by omega), zero_mul]

theorem column_eq (t : Fin cfg0.N) (b : Fin 4) (hb : b.val = t.val / 8) (d : Fin 64) (n : Fin 2048) (N : Fin 16384)
    (hN : N.val = 2048 * (t.val % 8) + n.val) :
    (outsAt0 m c t.val t.isLt).1 (ix3 0 d n) = outv m c b d N := by
  have hq : (outsAt0 m c t.val t.isLt).1 = pointOut (iblk m c 1 t) (outsAt0 m c t.val t.isLt).2.1 (outsAt0 m c t.val t.isLt).2.2 (iblk m c 5 t) := by
    by_cases h : t.val % 8 = 0
    · exact out_A m c t h
    · exact out_B m c t h
  have lt : t.val / 8 < 4 := by have := tlt t; clear hb; omega
  obtain rfl : b = ⟨t.val / 8, lt⟩ := Fin.ext hb
  rw [hq, (scratch_eq m c t.val t.isLt).1, (scratch_eq m c t.val t.isLt).2, blk5]
  erw [pointOut_apply]
  have h1 (j : Fin 32) (k : Fin 4096) : kgVal (pool m c ⟨t.val / 8, lt⟩) (aT m c) (fun _ => gam m c) (ix2 ⟨80 + j.val, by omega⟩ k)
      = pool m c ⟨t.val / 8, lt⟩ (ix2 ⟨8 + j.val, by omega⟩ k) * gam m c := by
    rw [kg_apply, dif_neg (by dsimp only; omega), if_neg (by dsimp only; omega), dif_neg (by dsimp only; omega), dif_pos (by dsimp only; omega)]
    exact congrArg (fun z => pool m c ⟨t.val / 8, lt⟩ (ix2 z k) * gam m c) (Fin.ext (by dsimp only; omega))
  have h2 (k : Fin 4096) : kgVal (pool m c ⟨t.val / 8, lt⟩) (aT m c) (fun _ => gam m c) (ix2 112 k) = 1 := by
    rw [kg_apply, dif_neg (by decide), if_neg (by decide), dif_neg (by decide), dif_neg (by decide), if_pos (by decide)]
  have h3 : iblk m c 1 t (ix3 0 d n) = xin m c ⟨t.val / 8, lt⟩ d N := by
    rw [blk1, v0_apply]
    exact congrArg (xin m c _ d) (Fin.ext hN.symm)
  unfold column outv
  simp only [wgt_eq m c t ⟨t.val / 8, lt⟩ rfl n N hN, h1, h2, one_mul]
  erw [h3]

/-! ## The result array, and the run -/

/-- The array the grid leaves. -/
def arr : FVec Ideal S4x64x16384 .f32 := fun i => outv m c (i 0) (i 1) (i 2)

theorem arr_eq : (dats m 0 c).arrAt 7 cfg0.N = arr m c := by
  refine (dats m 0 c).arrAt_eq_of_covers 7 _ (by decide +kernel) fun t hf y => ?_
  obtain ⟨z, d, n, rfl⟩ : ∃ (z : Fin 1) (d : Fin 64) (n : Fin 2048), y = ix3 z d n := ⟨y 0, y 1, y 2, eq_ix3 y⟩
  obtain rfl : z = 0 := Subsingleton.elim _ _
  blk_simp
  rw [after0_7]
  have lt : t.val / 8 < 4 := by have := tlt t; omega
  have e0 : (win0_7.blk t).view.emb (ix3 0 d n) = (ix3 ⟨t.val / 8, lt⟩ d ⟨2048 * (t.val % 8) + n.val, by omega⟩ : S4x64x16384.Idx) := by
    blk_ext [at7 t]
  rw [e0]
  exact column_eq m c t ⟨t.val / 8, lt⟩ rfl d n _ rfl

/-- The result as returned: the array's positions as rows and columns. -/
def result : FVec Ideal S4x64x128x128 .f32 := shapeCast S4x64x128x128 (arr m c) shapeCasts_S4x64x16384_S4x64x128x128

theorem tail_eq : Pipeline.afterTail₀ cfgs (dats m) 0 (V0 m) [hostOps1] c main_v3 = result m c := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v2) = arr m c :=
    (Pipeline.withArrays_arr_shared (cfgs 0).spec c (V0 m c) (fun w => (dats m 0 c).arrAt w (cfgs 0).N)
      (Pipeline.Dat.arrAt_sharedIn (dats m 0 c) (by decide) (V0 m c) (A_eq m c) _) 7).trans (arr_eq m c)
  rw [e]
  rfl

end Cert.KernelIdeal.Val
-- ==== Proof.KernelRun.lean ====
/-
  The kernel's run: its result array ends as `result`, its arguments as they were.
-/
module

public import proofs.«01_k».proof.Proof.Result

@[expose] public section

set_option maxRecDepth 16384

noncomputable section

namespace Cert.KernelIdeal.Val

open Idealize.ShloMosaic Idealize.ShloMosaic.TcCoe Idealize.SL Idealize.SL.Sem Cert.KernelIdeal Cert.KernelIdeal.Gen

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c)⟩)
    (run_main m ρ)

theorem result_apply (m : (ℓ : Loc nD τ sig) → Buf (Elt Ideal) ℓ) (c : Dev nD) (b : Fin 4) (d : Fin 64) (h w : Fin 128) :
    result m c (ix4 b d h w) = outv m c b d ⟨h.val * 128 + w.val, by omega⟩ := by
  pointwise [result, arr]

end Cert.KernelIdeal.Val
-- ==== Proof.Ref.lean ====
/-
  The reference at an index, stage by stage.
-/
module

public import proofs.«01_k».proof.Proof.Gen.ReferenceIdeal.Read
public import Idealize.ShloMosaic.Lib.Pointwise

@[expose] public section

set_option maxRecDepth 16384

noncomputable section

namespace Cert.ReferenceIdeal.Val

open Idealize.ShloMosaic Cert.ReferenceIdeal Cert.ReferenceIdeal.Gen Cert.ReferenceIdeal.Read

variable (x : FVec Ideal S4x64x128x128 .f32) (wt wp : FVec Ideal S8x64 .f32) (wg : FVec Ideal S32x64 .f32) (wo : FVec Ideal S64x32 .f32)
  (g : FVec Ideal S_ .f32)

theorem qry_apply (b : Fin 4) (o : Fin 8) (n : Fin 16384) : val_main_v2 (F := Ideal) x wt (ix3 b o n)
    = ∑ d : Fin 64, x (ix4 b d ⟨n.val / 128, by omega⟩ ⟨n.val % 128, by omega⟩) * wt (ix2 o d) := by
  pointwise [val_main_v2, val_main_v1, val_main_v0]

theorem score_apply (b : Fin 4) (n : Fin 16384) (k : Fin 4096) : val_main_v13 (F := Ideal) x wt wp (ix3 b n k)
    = ∑ o : Fin 8, val_main_v2 (F := Ideal) x wt (ix3 b o n) * val_main_v7 (F := Ideal) x wp (ix3 b o k) := by
  pointwise [val_main_v13]

theorem max_apply (b : Fin 4) (n : Fin 16384) : val_main_v14 (F := Ideal) x wt wp (ix2 b n)
    = Finset.univ.fold max ⊥ fun k : Fin 4096 => val_main_v13 (F := Ideal) x wt wp (ix3 b n k) := by
  pointwise [val_main_v14, val_main_cst_1]
  rfl

theorem exp_apply (b : Fin 4) (n : Fin 16384) (k : Fin 4096) : val_main_v20 (F := Ideal) x wt wp (ix3 b n k)
    = Ideal.exp (val_main_v13 (F := Ideal) x wt wp (ix3 b n k) - max ⊥ (val_main_v14 (F := Ideal) x wt wp (ix2 b n))) := by
  rw [val_main_v20_apply, val_main_v19_apply, val_main_v18_apply, val_main_v17_apply, val_main_v16_apply, val_main_v15_apply,
    val_main_cst_2_apply, show idx_main_v17 (idx_main_v18 (ix3 b n k)) = ix2 b n from
      funext fun a => match a with | ⟨0, _⟩ => rfl | ⟨1, _⟩ => rfl]
  generalize val_main_v13 (F := Ideal) x wt wp (ix3 b n k) = u
  generalize val_main_v14 (F := Ideal) x wt wp (ix2 b n) = v
  rfl

theorem soft_apply (b : Fin 4) (n : Fin 16384) (k : Fin 4096) : val_main_v24 (F := Ideal) x wt wp (ix3 b n k)
    = Ideal.div (val_main_v20 (F := Ideal) x wt wp (ix3 b n k)) (∑ l : Fin 4096, val_main_v20 (F := Ideal) x wt wp (ix3 b n l)) := by
  pointwise [val_main_v24, val_main_v23, val_main_v22, val_main_v21, val_main_cst_3]

theorem out_apply (b : Fin 4) (d : Fin 64) (h w : Fin 128) : val_main_v31 (F := Ideal) x wt wp wg wo g (ix4 b d h w)
    = g ix0 * (∑ j : Fin 32, (∑ k : Fin 4096, val_main_v12 (F := Ideal) x wg (ix3 b j k) * val_main_v24 (F := Ideal) x wt wp (ix3 b ⟨h.val * 128 + w.val, by omega⟩ k)) * wo (ix2 d j))
      + x (ix4 b d h w) := by
  pointwise [val_main_v31, val_main_v30, val_main_v29, val_main_v28, val_main_v27, val_main_v26, val_main_v25]

end Cert.ReferenceIdeal.Val
-- ==== Proof.RefPool.lean ====
/-
  The reference at an index, its two pooled projections.
-/
module

public import proofs.«01_k».proof.Proof.Gen.ReferenceIdeal.Read
public import Idealize.ShloMosaic.Lib.Pointwise

@[expose] public section

set_option maxRecDepth 16384

noncomputable section

namespace Cert.ReferenceIdeal.Val

open Idealize.ShloMosaic Cert.ReferenceIdeal Cert.ReferenceIdeal.Gen Cert.ReferenceIdeal.Read

variable (x : FVec Ideal S4x64x128x128 .f32) (wt wp : FVec Ideal S8x64 .f32) (wg : FVec Ideal S32x64 .f32) (wo : FVec Ideal S64x32 .f32)
  (g : FVec Ideal S_ .f32)

/-- One entry of a projection before pooling: a sum over the channels. -/
theorem key_conv (b : Fin 4) (o : Fin 8) (h w : Fin 128) : val_main_v4 (F := Ideal) x wp (ix4 b o h w)
    = ∑ d : Fin 64, x (ix4 b d h w) * wp (ix2 o d) := by
  pointwise [val_main_v4, val_main_v3]

/-- The same for the values' projection. -/
theorem val_conv (b : Fin 4) (j : Fin 32) (h w : Fin 128) : val_main_v9 (F := Ideal) x wg (ix4 b j h w)
    = ∑ d : Fin 64, x (ix4 b d h w) * wg (ix2 j d) := by
  pointwise [val_main_v9, val_main_v8]

/-- The greatest of the four entries of the two-by-two square whose top left corner is `(2 k, 2 l)`. -/
def four (f : Fin 128 → Fin 128 → EReal) (k l : Fin 64) : EReal :=
  max (max (f ⟨k.val * 2, by omega⟩ ⟨l.val * 2, by omega⟩) (f ⟨k.val * 2 + 1, by omega⟩ ⟨l.val * 2, by omega⟩))
    (max (f ⟨k.val * 2, by omega⟩ ⟨l.val * 2 + 1, by omega⟩) (f ⟨k.val * 2 + 1, by omega⟩ ⟨l.val * 2 + 1, by omega⟩))

/-- Each entry of a square is at most the square's greatest. -/
theorem le_four (f : Fin 128 → Fin 128 → EReal) (k l : Fin 64) (i j : Fin 2) :
    f ⟨k.val * 2 + i.val, by omega⟩ ⟨l.val * 2 + j.val, by omega⟩ ≤ four f k l := by
  unfold four
  fin_cases i <;> fin_cases j <;> simp [le_max_iff]

/-- The greatest of a square is below every bound of its four entries. -/
theorem four_le (f : Fin 128 → Fin 128 → EReal) (k l : Fin 64) (r : EReal)
    (h : ∀ i j : Fin 2, f ⟨k.val * 2 + i.val, by omega⟩ ⟨l.val * 2 + j.val, by omega⟩ ≤ r) : four f k l ≤ r :=
  max_le (max_le (h 0 0) (h 1 0)) (max_le (h 0 1) (h 1 1))

/-- The reshape of the keys' projection into two-by-two squares, at an index. -/
theorem key_square (y : S4x8x64x2x64x2.Idx) : val_main_v5 (F := Ideal) x wp y
    = val_main_v4 (F := Ideal) x wp (ix4 (y 0) (y 1) ⟨(y 2).val * 2 + (y 3).val, by
        have h : (y 2).val < 64 := (y 2).isLt; have h' : (y 3).val < 2 := (y 3).isLt; omega⟩
      ⟨(y 4).val * 2 + (y 5).val, by
        have h : (y 4).val < 64 := (y 4).isLt; have h' : (y 5).val < 2 := (y 5).isLt; omega⟩) := by
  unfold val_main_v5
  pointwise

/-- The same for the values' projection. -/
theorem val_square (y : S4x32x64x2x64x2.Idx) : val_main_v10 (F := Ideal) x wg y
    = val_main_v9 (F := Ideal) x wg (ix4 (y 0) (y 1) ⟨(y 2).val * 2 + (y 3).val, by
        have h : (y 2).val < 64 := (y 2).isLt; have h' : (y 3).val < 2 := (y 3).isLt; omega⟩
      ⟨(y 4).val * 2 + (y 5).val, by
        have h : (y 4).val < 64 := (y 4).isLt; have h' : (y 5).val < 2 := (y 5).isLt; omega⟩) := by
  unfold val_main_v10
  pointwise

/-- The pooled keys: the greatest of each square. -/
theorem key_max (b : Fin 4) (o : Fin 8) (k l : Fin 64) : val_main_v6 (F := Ideal) x wp (ix4 b o k l)
    = four (fun h w => val_main_v4 (F := Ideal) x wp (ix4 b o h w)) k l := by
  unfold val_main_v6
  pointwise
  refine le_antisymm (Finset.fold_max_le _ |>.2 ⟨bot_le, fun y hy => ?_⟩) (four_le _ k l _ fun i j => ?_)
  · have e := (Finset.mem_filter.1 hy).2
    have e0 : y 0 = b := Fin.ext ((reducesTo_S4x8x64x2x64x2_S4x8x64x64_d3_5.drop_apply_val_of_eq y 0 0).symm.trans (by rw [e]; rfl))
    have e1 : y 1 = o := Fin.ext ((reducesTo_S4x8x64x2x64x2_S4x8x64x64_d3_5.drop_apply_val_of_eq y 1 1).symm.trans (by rw [e]; rfl))
    have e2 : y 2 = k := Fin.ext ((reducesTo_S4x8x64x2x64x2_S4x8x64x64_d3_5.drop_apply_val_of_eq y 2 2).symm.trans (by rw [e]; rfl))
    have e4 : y 4 = l := Fin.ext ((reducesTo_S4x8x64x2x64x2_S4x8x64x64_d3_5.drop_apply_val_of_eq y 3 4).symm.trans (by rw [e]; rfl))
    subst e0 e1 e2 e4
    rw [key_square]
    exact le_four (fun h w => val_main_v4 (F := Ideal) x wp (ix4 (y 0) (y 1) h w)) (y 2) (y 4) (y 3) (y 5)
  · refine (Finset.le_fold_max _).2 (Or.inr ⟨ix6 b o k i l j, Finset.mem_filter.2 ⟨Finset.mem_univ _, ?_⟩, ?_⟩)
    · exact funext fun a => match a with
        | ⟨0, _⟩ => Fin.ext (Shape.ReducesTo.drop_apply_val_of_eq _ (ix6 b o k i l j) 0 0)
        | ⟨1, _⟩ => Fin.ext (Shape.ReducesTo.drop_apply_val_of_eq _ (ix6 b o k i l j) 1 1)
        | ⟨2, _⟩ => Fin.ext (Shape.ReducesTo.drop_apply_val_of_eq _ (ix6 b o k i l j) 2 2)
        | ⟨3, _⟩ => Fin.ext (Shape.ReducesTo.drop_apply_val_of_eq _ (ix6 b o k i l j) 3 4)
    · exact (key_square x wp (ix6 b o k i l j)).ge

/-- The pooled values. -/
theorem val_max (b : Fin 4) (o : Fin 32) (k l : Fin 64) : val_main_v11 (F := Ideal) x wg (ix4 b o k l)
    = four (fun h w => val_main_v9 (F := Ideal) x wg (ix4 b o h w)) k l := by
  unfold val_main_v11
  pointwise
  refine le_antisymm (Finset.fold_max_le _ |>.2 ⟨bot_le, fun y hy => ?_⟩) (four_le _ k l _ fun i j => ?_)
  · have e := (Finset.mem_filter.1 hy).2
    have e0 : y 0 = b := Fin.ext ((reducesTo_S4x32x64x2x64x2_S4x32x64x64_d3_5.drop_apply_val_of_eq y 0 0).symm.trans (by rw [e]; rfl))
    have e1 : y 1 = o := Fin.ext ((reducesTo_S4x32x64x2x64x2_S4x32x64x64_d3_5.drop_apply_val_of_eq y 1 1).symm.trans (by rw [e]; rfl))
    have e2 : y 2 = k := Fin.ext ((reducesTo_S4x32x64x2x64x2_S4x32x64x64_d3_5.drop_apply_val_of_eq y 2 2).symm.trans (by rw [e]; rfl))
    have e4 : y 4 = l := Fin.ext ((reducesTo_S4x32x64x2x64x2_S4x32x64x64_d3_5.drop_apply_val_of_eq y 3 4).symm.trans (by rw [e]; rfl))
    subst e0 e1 e2 e4
    rw [val_square]
    exact le_four (fun h w => val_main_v9 (F := Ideal) x wg (ix4 (y 0) (y 1) h w)) (y 2) (y 4) (y 3) (y 5)
  · refine (Finset.le_fold_max _).2 (Or.inr ⟨ix6 b o k i l j, Finset.mem_filter.2 ⟨Finset.mem_univ _, ?_⟩, ?_⟩)
    · exact funext fun a => match a with
        | ⟨0, _⟩ => Fin.ext (Shape.ReducesTo.drop_apply_val_of_eq _ (ix6 b o k i l j) 0 0)
        | ⟨1, _⟩ => Fin.ext (Shape.ReducesTo.drop_apply_val_of_eq _ (ix6 b o k i l j) 1 1)
        | ⟨2, _⟩ => Fin.ext (Shape.ReducesTo.drop_apply_val_of_eq _ (ix6 b o k i l j) 2 2)
        | ⟨3, _⟩ => Fin.ext (Shape.ReducesTo.drop_apply_val_of_eq _ (ix6 b o k i l j) 3 4)
    · exact (val_square x wg (ix6 b o k i l j)).ge

/-- The keys in one row of pooled positions. -/
theorem key_apply (b : Fin 4) (o : Fin 8) (k : Fin 4096) : val_main_v7 (F := Ideal) x wp (ix3 b o k)
    = four (fun h w => ∑ d : Fin 64, x (ix4 b d h w) * wp (ix2 o d)) ⟨k.val / 64, by omega⟩ ⟨k.val % 64, by omega⟩ := by
  pointwise [val_main_v7]
  simp only [key_max, key_conv]

/-- The values in one row of pooled positions. -/
theorem value_apply (b : Fin 4) (j : Fin 32) (k : Fin 4096) : val_main_v12 (F := Ideal) x wg (ix3 b j k)
    = four (fun h w => ∑ d : Fin 64, x (ix4 b d h w) * wg (ix2 j d)) ⟨k.val / 64, by omega⟩ ⟨k.val % 64, by omega⟩ := by
  pointwise [val_main_v12]
  simp only [val_max, val_conv]

end Cert.ReferenceIdeal.Val
-- ==== Proof.Lift.lean ====
/-
  The equation of the two programs over real numbers: the kernel weighs with powers of two and divides
  at the end, the reference with a shifted exponential normalised first.
-/
module

public import proofs.«01_k».proof.Proof.Keys

@[expose] public section

noncomputable section

namespace Cert.KernelIdeal.Val

open Idealize.ShloMosaic

/-- A finite sum of reals is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The greatest of 4096 reals, folded from minus infinity, is a real at least each of them. -/
theorem fold_real (f : Fin 4096 → ℝ) : ∃ r : ℝ, (Finset.univ.fold max ⊥ fun k => (f k : EReal)) = (r : EReal) ∧ ∀ k, f k ≤ r := by
  refine ⟨Finset.univ.sup' ⟨0, Finset.mem_univ _⟩ f, le_antisymm ?_ ?_, fun k => Finset.le_sup' f (Finset.mem_univ k)⟩
  · exact (Finset.fold_max_le _).2 ⟨bot_le, fun k hk => EReal.coe_le_coe_iff.2 (Finset.le_sup' f hk)⟩
  · obtain ⟨k, hk, e⟩ := Finset.exists_mem_eq_sup' (⟨0, Finset.mem_univ _⟩ : (Finset.univ : Finset (Fin 4096)).Nonempty) f
    rw [e]
    exact (Finset.le_fold_max _).2 (Or.inr ⟨k, hk, le_rfl⟩)

/-- The square root of a real that is not negative is a real. -/
theorem sqrt_real (r : ℝ) (h : 0 ≤ r) : Ideal.sqrt (r : EReal) = ((Real.sqrt r : ℝ) : EReal) := by
  rw [Ideal.sqrt_coe, if_neg (not_lt.2 h)]

/-- Two to the power of a real over `log 2` is the exponential of that real. -/
theorem two_pow (s β : ℝ) : Real.rpow 2 (s * (Real.log 2)⁻¹ + (0 - β)) = Real.exp s * Real.exp (-(β * Real.log 2)) := by
  have h2 : Real.log 2 ≠ 0 := (Real.log_pos (by norm_num)).ne'
  rw [← Real.exp_add]
  show (2 : ℝ) ^ (s * (Real.log 2)⁻¹ + (0 - β)) = _
  rw [Real.rpow_def_of_pos (by norm_num)]
  congr 1
  field_simp
  ring

/-- Among reals the two normalisations agree: a common factor of all the weights cancels. -/
theorem normalise (e : Fin 4096 → ℝ) (he : ∀ k, 0 < e k) (V : Fin 32 → Fin 4096 → ℝ) (O : Fin 32 → ℝ) (γ a b : ℝ)
    (ha : 0 < a) (hb : 0 < b) :
    (∑ j, O j * ∑ k, V j k * γ * (e k * a)) * (1 / ∑ k, e k * a)
      = γ * ∑ j, (∑ k, V j k * (e k * b * (1 / ∑ l, e l * b))) * O j := by
  have hs : (0 : ℝ) < ∑ k, e k := Finset.sum_pos (fun k _ => he k) ⟨0, Finset.mem_univ _⟩
  rw [← Finset.sum_mul, ← Finset.sum_mul]
  have h1 : ∀ j, (∑ k, V j k * γ * (e k * a)) = γ * a * ∑ k, V j k * e k := fun j => by
    rw [Finset.mul_sum]; exact Finset.sum_congr rfl fun k _ => by ring
  have h2 : ∀ j, (∑ k, V j k * (e k * b * (1 / ((∑ l, e l) * b)))) = (1 / ∑ l, e l) * ∑ k, V j k * e k := fun j => by
    rw [Finset.mul_sum]; exact Finset.sum_congr rfl fun k _ => by field_simp
  simp only [h1, h2]
  rw [Finset.sum_mul, Finset.mul_sum]
  refine Finset.sum_congr rfl fun j _ => ?_
  field_simp

/-- The score a position and a key have, as the reference computes it. -/
def score (X : Fin 64 → ℝ) (T : Fin 8 → Fin 64 → ℝ) (K : Fin 8 → Fin 4096 → ℝ) (k : Fin 4096) : ℝ :=
  ∑ o, (∑ d, X d * T o d) * K o k

/-- The kernel's exponent before its shift is the score over `log 2`. -/
theorem score_eq (X : Fin 64 → ℝ) (T : Fin 8 → Fin 64 → ℝ) (K : Fin 8 → Fin 4096 → ℝ) (k : Fin 4096) :
    (∑ d, (X d : EReal) * ∑ o, ((T o d : EReal) * L2) * (K o k : EReal)) = ((score X T K k * (Real.log 2)⁻¹ : ℝ) : EReal) := by
  unfold L2 score
  simp only [← EReal.coe_mul, ← coe_sum]
  congr 1
  simp only [Finset.mul_sum, Finset.sum_mul]
  rw [Finset.sum_comm]
  exact Finset.sum_congr rfl fun o _ => Finset.sum_congr rfl fun d _ => by ring

/-- The reference's score among the extended reals. -/
theorem score_coe (X : Fin 64 → ℝ) (T : Fin 8 → Fin 64 → ℝ) (K : Fin 8 → Fin 4096 → ℝ) (k : Fin 4096) :
    (∑ o, (∑ d, (X d : EReal) * (T o d : EReal)) * (K o k : EReal)) = ((score X T K k : ℝ) : EReal) := by
  unfold score
  simp only [← EReal.coe_mul, ← coe_sum]

/-- The kernel's result at a position and a channel is the reference's, on real data, for any real shift
    of either program's exponent. -/
theorem attention (X : Fin 64 → ℝ) (T : Fin 8 → Fin 64 → ℝ) (K : Fin 8 → Fin 4096 → ℝ) (V : Fin 32 → Fin 4096 → ℝ)
    (O : Fin 32 → ℝ) (γ β M : ℝ) :
    Ideal.div (∑ j, (O j : EReal) * ∑ k, ((V j k : EReal) * (γ : EReal)) *
          Ideal.exp2 (((score X T K k * (Real.log 2)⁻¹ : ℝ) : EReal) + (0 - (β : EReal))))
        (∑ k, Ideal.exp2 (((score X T K k * (Real.log 2)⁻¹ : ℝ) : EReal) + (0 - (β : EReal))))
      = (γ : EReal) * ∑ j, (∑ k, (V j k : EReal) *
          Ideal.div (Ideal.exp ((score X T K k : EReal) - (M : EReal))) (∑ l, Ideal.exp ((score X T K l : EReal) - (M : EReal))))
            * (O j : EReal) := by
  have hk : ∀ k, Ideal.exp2 (((score X T K k * (Real.log 2)⁻¹ : ℝ) : EReal) + (0 - (β : EReal)))
      = ((Real.exp (score X T K k) * Real.exp (-(β * Real.log 2)) : ℝ) : EReal) := fun k => by
    rw [← EReal.coe_zero, ← EReal.coe_sub, ← EReal.coe_add, Ideal.exp2_coe, two_pow]
  have hr : ∀ k, Ideal.exp ((score X T K k : EReal) - (M : EReal))
      = ((Real.exp (score X T K k) * Real.exp (-M) : ℝ) : EReal) := fun k => by
    rw [← EReal.coe_sub, Ideal.exp_coe, sub_eq_add_neg, Real.exp_add]
  simp only [hk, hr]
  have pos : ∀ c : ℝ, (∑ k, Real.exp (score X T K k) * Real.exp c) ≠ 0 := fun c =>
    (Finset.sum_pos (fun k _ => mul_pos (Real.exp_pos _) (Real.exp_pos _)) ⟨0, Finset.mem_univ _⟩).ne'
  simp only [← EReal.coe_mul, ← coe_sum, Ideal.div_coe (pos _)]
  congr 1
  exact normalise _ (fun k => Real.exp_pos _) V O γ _ _ (Real.exp_pos _) (Real.exp_pos _)

end Cert.KernelIdeal.Val
-- ==== Proof.Equal.lean ====
/-
  The kernel's result array is the reference's, on arguments that are arrays of reals.
-/
module

public import proofs.«01_k».proof.Proof.KernelRun
public import proofs.«01_k».proof.Proof.Ref
public import proofs.«01_k».proof.Proof.RefPool
public import proofs.«01_k».proof.Proof.Lift

@[expose] public section

set_option maxRecDepth 16384

noncomputable section

namespace Cert.KernelIdeal.Val

open Idealize.ShloMosaic Cert.KernelIdeal Cert.KernelIdeal.Gen Cert.ReferenceIdeal.Read Cert.ReferenceIdeal.Val

variable (m : (ℓ : Loc nD τ sig) → Buf (Elt Ideal) ℓ) (c : Dev nD)

/-- The pooled projection, square by square. -/
theorem pool_four (b : Fin 4) (r : Fin 40) (k : Fin 4096) (f : Fin 128 → Fin 128 → EReal)
    (hf : ∀ h w : Fin 128, k0_pay3 (F := Ideal) (img m c b) (aP m c) (aG m c) (ix2 r ⟨128 * h.val + w.val, by omega⟩) = f h w) :
    pool m c b (ix2 r k) = four f ⟨k.val / 64, by omega⟩ ⟨k.val % 64, by omega⟩ := by
  unfold four
  rw [← hf, ← hf, ← hf, ← hf]
  show pooled _ r k = _
  unfold pooled
  have e1 : (⟨256 * (k.val / 64) + 2 * (k.val % 64), by omega⟩ : Fin 16384) = ⟨128 * (k.val / 64 * 2) + k.val % 64 * 2, by omega⟩ := Fin.ext (by dsimp only; omega)
  have e2 : (⟨256 * (k.val / 64) + 128 + 2 * (k.val % 64), by omega⟩ : Fin 16384) = ⟨128 * (k.val / 64 * 2 + 1) + k.val % 64 * 2, by omega⟩ := Fin.ext (by dsimp only; omega)
  have e3 : (⟨256 * (k.val / 64) + (2 * (k.val % 64) + 1), by omega⟩ : Fin 16384) = ⟨128 * (k.val / 64 * 2) + (k.val % 64 * 2 + 1), by omega⟩ := Fin.ext (by dsimp only; omega)
  have e4 : (⟨256 * (k.val / 64) + 128 + (2 * (k.val % 64) + 1), by omega⟩ : Fin 16384) = ⟨128 * (k.val / 64 * 2 + 1) + (k.val % 64 * 2 + 1), by omega⟩ := Fin.ext (by dsimp only; omega)
  rw [e1, e2, e3, e4]

theorem img_apply (b : Fin 4) (d : Fin 64) (h w : Fin 128) :
    img m c b (ix3 0 d ⟨128 * h.val + w.val, by omega⟩) = aX m c (ix4 b d h w) := by
  refine (v0_apply m c b d ⟨128 * h.val + w.val, by omega⟩).trans ?_
  unfold xin
  have e1 : (⟨(128 * h.val + w.val) / 128, by omega⟩ : Fin 128) = h := Fin.ext (by dsimp only; omega)
  have e2 : (⟨(128 * h.val + w.val) % 128, by omega⟩ : Fin 128) = w := Fin.ext (by dsimp only; omega)
  dsimp only
  rw [e1, e2]

/-- The pooled keys are the reference's. -/
theorem pool_key (b : Fin 4) (o : Fin 8) (k : Fin 4096) :
    pool m c b (ix2 ⟨o.val, by omega⟩ k) = val_main_v7 (F := Ideal) (aX m c) (aP m c) (ix3 b o k) := by
  rw [key_apply]
  refine pool_four m c b _ k _ fun h w => ?_
  rw [proj_apply]
  refine Finset.sum_congr rfl fun d _ => ?_
  rw [dif_pos o.isLt, img_apply, mul_comm]

/-- The pooled values are the reference's. -/
theorem pool_value (b : Fin 4) (j : Fin 32) (k : Fin 4096) :
    pool m c b (ix2 ⟨8 + j.val, by omega⟩ k) = val_main_v12 (F := Ideal) (aX m c) (aG m c) (ix3 b j k) := by
  rw [value_apply]
  refine pool_four m c b _ k _ fun h w => ?_
  rw [proj_apply]
  refine Finset.sum_congr rfl fun d _ => ?_
  have e : (⟨8 + j.val - 8, by omega⟩ : Fin 32) = j := Fin.ext (by dsimp only; omega)
  dsimp only
  rw [dif_neg (by omega), img_apply, mul_comm, e]

/-- The greatest of a square of reals is a real. -/
theorem four_real (f : Fin 128 → Fin 128 → EReal) (hf : ∀ h w, ∃ r : ℝ, f h w = (r : EReal)) (k l : Fin 64) :
    ∃ r : ℝ, four f k l = (r : EReal) := by
  have mx : ∀ a b : EReal, (∃ r : ℝ, a = (r : EReal)) → (∃ r : ℝ, b = (r : EReal)) → ∃ r : ℝ, max a b = (r : EReal) := by
    rintro a b ha hb
    rcases max_choice a b with e | e <;> rw [e] <;> assumption
  exact mx _ _ (mx _ _ (hf _ _) (hf _ _)) (mx _ _ (hf _ _) (hf _ _))

/-- The two programs' results agree at each index. -/
theorem out_eq (X : S4x64x128x128.Idx → ℝ) (hX : ∀ y, aX m c y = (X y : EReal)) (T : S8x64.Idx → ℝ) (hT : ∀ y, aT m c y = (T y : EReal))
    (P : S8x64.Idx → ℝ) (hP : ∀ y, aP m c y = (P y : EReal)) (G : S32x64.Idx → ℝ) (hG : ∀ y, aG m c y = (G y : EReal))
    (O : S64x32.Idx → ℝ) (hO : ∀ y, aO m c y = (O y : EReal)) (S : S_.Idx → ℝ) (hS : ∀ y, aS m c y = (S y : EReal))
    (b : Fin 4) (d : Fin 64) (h w : Fin 128) :
    result m c (ix4 b d h w) = val_main_v31 (F := Ideal) (aX m c) (aT m c) (aP m c) (aG m c) (aO m c) (aS m c) (ix4 b d h w) := by
  have rk : ∀ (o : Fin 8) (k : Fin 4096), ∃ r : ℝ, val_main_v7 (F := Ideal) (aX m c) (aP m c) (ix3 b o k) = (r : EReal) := fun o k => by
    rw [key_apply]
    refine four_real _ (fun h w => ⟨∑ d : Fin 64, X (ix4 b d h w) * P (ix2 o d), ?_⟩) _ _
    simp only [hX, hP, ← EReal.coe_mul, ← coe_sum]
  have rv : ∀ (j : Fin 32) (k : Fin 4096), ∃ r : ℝ, val_main_v12 (F := Ideal) (aX m c) (aG m c) (ix3 b j k) = (r : EReal) := fun j k => by
    rw [value_apply]
    refine four_real _ (fun h w => ⟨∑ d : Fin 64, X (ix4 b d h w) * G (ix2 j d), ?_⟩) _ _
    simp only [hX, hG, ← EReal.coe_mul, ← coe_sum]
  choose K hK using rk
  choose V hV using rv
  rw [result_apply, out_apply]
  set n : Fin 16384 := ⟨h.val * 128 + w.val, by omega⟩ with hn
  have en1 : (⟨n.val / 128, by omega⟩ : Fin 128) = h := Fin.ext (by simp only [hn]; omega)
  have en2 : (⟨n.val % 128, by omega⟩ : Fin 128) = w := Fin.ext (by simp only [hn]; omega)
  have hx : ∀ e, xin m c b e n = ((X (ix4 b e h w) : ℝ) : EReal) := fun e => by
    unfold xin
    rw [en1, en2, hX]
  -- the folded keys
  have hk : ∀ e k, keff (pool m c b) (aT m c) e k = ∑ o : Fin 8, ((T (ix2 o e) : EReal) * L2) * (K o k : EReal) := fun e k => by
    unfold keff
    simp only [pool_key, hT, hK]
  have hkr : ∀ e k, keff (pool m c b) (aT m c) e k = ((∑ o : Fin 8, T (ix2 o e) * (Real.log 2)⁻¹ * K o k : ℝ) : EReal) := fun e k => by
    rw [hk]
    unfold L2
    simp only [← EReal.coe_mul, ← coe_sum]
  -- the kernel's shift is a real
  have hm : ∃ r : ℝ, kmax m c b = (r : EReal) := by
    unfold kmax
    simp only [hkr, ← EReal.coe_mul, ← coe_sum]
    obtain ⟨r, e, le⟩ := fold_real fun k => ∑ e : Fin 64, (∑ o : Fin 8, T (ix2 o e) * (Real.log 2)⁻¹ * K o k) * (∑ o : Fin 8, T (ix2 o e) * (Real.log 2)⁻¹ * K o k)
    rw [e]
    exact ⟨_, sqrt_real r ((Finset.sum_nonneg fun e _ => mul_self_nonneg _).trans (le 0))⟩
  obtain ⟨r, hr⟩ := hm
  have hw : ∀ k, wexp m c b n k = Ideal.exp2 (((score (fun e => X (ix4 b e h w)) (fun o e => T (ix2 o e)) K k * (Real.log 2)⁻¹ : ℝ) : EReal)
      + (0 - ((Real.sqrt (∑ e : Fin 64, X (ix4 b e h w) * X (ix4 b e h w)) * r : ℝ) : EReal))) := fun k => by
    unfold wexp
    simp only [hx, hk, hr, score_eq (fun e => X (ix4 b e h w)) (fun o e => T (ix2 o e)) K k]
    simp only [← EReal.coe_mul, ← coe_sum]
    rw [sqrt_real _ (Finset.sum_nonneg fun e _ => mul_self_nonneg _), ← EReal.coe_mul]
  -- the reference's scores and their greatest
  have hs : ∀ k, val_main_v13 (F := Ideal) (aX m c) (aT m c) (aP m c) (ix3 b n k)
      = ((score (fun e => X (ix4 b e h w)) (fun o e => T (ix2 o e)) K k : ℝ) : EReal) := fun k => by
    rw [score_apply, ← score_coe]
    refine Finset.sum_congr rfl fun o _ => ?_
    rw [qry_apply, hK, en1, en2]
    simp only [hX, hT]
  obtain ⟨M, hM, -⟩ := fold_real (score (fun e => X (ix4 b e h w)) (fun o e => T (ix2 o e)) K)
  have he : ∀ k, val_main_v20 (F := Ideal) (aX m c) (aT m c) (aP m c) (ix3 b n k)
      = Ideal.exp ((score (fun e => X (ix4 b e h w)) (fun o e => T (ix2 o e)) K k : EReal) - (M : EReal)) := fun k => by
    rw [exp_apply, max_apply]
    simp only [hs]
    rw [hM, max_eq_right bot_le]
  unfold outv
  simp only [hw, hx, pool_value, hV, hO, soft_apply, he, hX, hS, gam]
  rw [attention _ _ _ V (fun j => O (ix2 d j)) (S ix0) _ M]

end Cert.KernelIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore that could end away from zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite arguments the kernel and the reference leave the same result array. -/
theorem value : Cert.algebraic_KernelIdeal_ReferenceIdeal_pre_finite := by
  intro m ρ m' ρ' hfin hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2.1, (hagree c).2.2.2.2.2]
  obtain ⟨⟨X, hX⟩, ⟨T, hT⟩, ⟨P, hP⟩, ⟨G, hG⟩, ⟨O, hO⟩, ⟨S, hS⟩⟩ := Cert.Finite.reals m hfin c
  funext i
  have e : i = ix4 (i 0) (i 1) (i 2) (i 3) := funext fun a => match a with
    | ⟨0, _⟩ => rfl | ⟨1, _⟩ => rfl | ⟨2, _⟩ => rfl | ⟨3, _⟩ => rfl
  rw [e]
  exact (Cert.KernelIdeal.Val.out_eq m c X hX T hT P hP G hG O hO S hS (i 0) (i 1) (i 2) (i 3)).symm

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  IdealRules.named_const.statement Cert.KernelIdeal.κ "log2e" .f32 0x3FB8AA3B#32 (((Real.log 2)⁻¹ : ℝ) : EReal) rfl,
  value⟩

end Cert.Proof

end
